-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x1024x768 : Shape := ⟨4, ![4, 16, 1024, 768]⟩
abbrev S4x16x1024 : Shape := ⟨3, ![4, 16, 1024]⟩
abbrev S1x768 : Shape := ⟨2, ![1, 768]⟩
abbrev S1 : Shape := ⟨1, ![1]⟩
abbrev S8x8x1024x768 : Shape := ⟨4, ![8, 8, 1024, 768]⟩
abbrev S8x8x1024 : Shape := ⟨3, ![8, 8, 1024]⟩
abbrev S768x1 : Shape := ⟨2, ![768, 1]⟩
abbrev S1x1 : Shape := ⟨2, ![1, 1]⟩
abbrev S8x8x64x768 : Shape := ⟨4, ![8, 8, 64, 768]⟩
abbrev S1x8x1024x768 : Shape := ⟨4, ![1, 8, 1024, 768]⟩
abbrev S1x8x1024 : Shape := ⟨3, ![1, 8, 1024]⟩
abbrev S1x8x64x768 : Shape := ⟨4, ![1, 8, 64, 768]⟩
abbrev S8x128 : Shape := ⟨2, ![8, 128]⟩
abbrev S8x1024x768 : Shape := ⟨3, ![8, 1024, 768]⟩
abbrev S8192x768 : Shape := ⟨2, ![8192, 768]⟩
abbrev S4096x768 : Shape := ⟨2, ![4096, 768]⟩
abbrev S4096x1 : Shape := ⟨2, ![4096, 1]⟩
abbrev S4x1024 : Shape := ⟨2, ![4, 1024]⟩
abbrev S8x1024 : Shape := ⟨2, ![8, 1024]⟩
abbrev S8x64 : Shape := ⟨2, ![8, 64]⟩
abbrev S64x8 : Shape := ⟨2, ![64, 8]⟩
abbrev S1x1024 : Shape := ⟨2, ![1, 1024]⟩
abbrev S64x1 : Shape := ⟨2, ![64, 1]⟩
abbrev S64x1024 : Shape := ⟨2, ![64, 1024]⟩
abbrev S1x1x1024x768 : Shape := ⟨4, ![1, 1, 1024, 768]⟩
abbrev S1024x768 : Shape := ⟨2, ![1024, 768]⟩
abbrev S64x768 : Shape := ⟨2, ![64, 768]⟩
abbrev S1x1x64x768 : Shape := ⟨4, ![1, 1, 64, 768]⟩
abbrev S4x16x64x768 : Shape := ⟨4, ![4, 16, 64, 768]⟩

abbrev nBuf : Space → Nat
  | .hbm => 10
  | .vmem => 9
  | .smem => 0
  | _ => 0

abbrev bufTy : (tb : Table) → Fin (tcTables nBuf tb) → BufTy
  | .hbm, ⟨0, _⟩ => ⟨S4x16x1024x768, .f32⟩
  | .hbm, ⟨1, _⟩ => ⟨S4x16x1024, .i32⟩
  | .hbm, ⟨2, _⟩ => ⟨S1x768, .f32⟩
  | .hbm, ⟨3, _⟩ => ⟨S1, .f32⟩
  | .hbm, ⟨4, _⟩ => ⟨S8x8x1024x768, .f32⟩
  | .hbm, ⟨5, _⟩ => ⟨S8x8x1024, .i32⟩
  | .hbm, ⟨6, _⟩ => ⟨S768x1, .f32⟩
  | .hbm, ⟨7, _⟩ => ⟨S1x1, .f32⟩
  | .hbm, ⟨8, _⟩ => ⟨S8x8x64x768, .f32⟩
  | .hbm, ⟨9, _⟩ => ⟨S4x16x64x768, .f32⟩
  | .local _ .vmem, ⟨0, _⟩ => ⟨S1x8x1024x768, .f32⟩
  | .local _ .vmem, ⟨1, _⟩ => ⟨S1x8x1024x768, .f32⟩
  | .local _ .vmem, ⟨2, _⟩ => ⟨S1x8x1024, .i32⟩
  | .local _ .vmem, ⟨3, _⟩ => ⟨S1x8x1024, .i32⟩
  | .local _ .vmem, ⟨4, _⟩ => ⟨S768x1, .f32⟩
  | .local _ .vmem, ⟨5, _⟩ => ⟨S1x1, .f32⟩
  | .local _ .vmem, ⟨6, _⟩ => ⟨S1x8x64x768, .f32⟩
  | .local _ .vmem, ⟨7, _⟩ => ⟨S1x8x64x768, .f32⟩
  | .local _ .vmem, ⟨8, _⟩ => ⟨S8x128, .f32⟩
  | _, _ => ⟨S4x16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x64x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x16x1024x768 : Shape := ⟨4, ![4, 16, 1024, 768]⟩
abbrev S4x16x1024 : Shape := ⟨3, ![4, 16, 1024]⟩
abbrev S1x768 : Shape := ⟨2, ![1, 768]⟩
abbrev S1 : Shape := ⟨1, ![1]⟩
abbrev S768x1 : Shape := ⟨2, ![768, 1]⟩
abbrev S4x16x1024x1 : Shape := ⟨4, ![4, 16, 1024, 1]⟩
abbrev S1x1x1x1 : Shape := ⟨4, ![1, 1, 1, 1]⟩
abbrev S_ : Shape := ⟨0, ![]⟩
abbrev S4x16x64 : Shape := ⟨3, ![4, 16, 64]⟩
abbrev S4x16x64x1 : Shape := ⟨4, ![4, 16, 64, 1]⟩
abbrev S4x16x64x768 : Shape := ⟨4, ![4, 16, 64, 768]⟩
abbrev S4x16x64x768x1 : Shape := ⟨5, ![4, 16, 64, 768, 1]⟩
abbrev S1x1x1x1x1 : Shape := ⟨5, ![1, 1, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x16x1024x768, .f32⟩
  | .hbm, ⟨1, _⟩ => ⟨S4x16x1024, .i32⟩
  | .hbm, ⟨2, _⟩ => ⟨S1x768, .f32⟩
  | .hbm, ⟨3, _⟩ => ⟨S1, .f32⟩
  | .hbm, ⟨4, _⟩ => ⟨S768x1, .f32⟩
  | .hbm, ⟨5, _⟩ => ⟨S4x16x1024x1, .f32⟩
  | .hbm, ⟨6, _⟩ => ⟨S1x1x1x1, .f32⟩
  | .hbm, ⟨7, _⟩ => ⟨S4x16x1024x1, .f32⟩
  | .hbm, ⟨8, _⟩ => ⟨S4x16x1024x1, .f32⟩
  | .hbm, ⟨9, _⟩ => ⟨S4x16x1024, .f32⟩
  | .hbm, ⟨10, _⟩ => ⟨S4x16x1024, .f32⟩
  | .hbm, ⟨11, _⟩ => ⟨S_, .f32⟩
  | .hbm, ⟨12, _⟩ => ⟨S4x16x1024, .f32⟩
  | .hbm, ⟨13, _⟩ => ⟨S4x16x1024, .f32⟩
  | .hbm, ⟨14, _⟩ => ⟨S_, .f32⟩
  | .hbm, ⟨15, _⟩ => ⟨S4x16x1024, .f32⟩
  | .hbm, ⟨16, _⟩ => ⟨S4x16x1024, .f32⟩
  | .hbm, ⟨17, _⟩ => ⟨S4x16x1024, .f32⟩
  | .hbm, ⟨18, _⟩ => ⟨S4x16x64, .f32⟩
  | .hbm, ⟨19, _⟩ => ⟨S4x16x64, .i32⟩
  | .hbm, ⟨20, _⟩ => ⟨S4x16x64x1, .i32⟩
  | .hbm, ⟨21, _⟩ => ⟨S4x16x64x768, .i32⟩
  | .hbm, ⟨22, _⟩ => ⟨S_, .i32⟩
  | .hbm, ⟨23, _⟩ => ⟨S4x16x64x768, .i32⟩
  | .hbm, ⟨24, _⟩ => ⟨S4x16x64x768, .i1⟩
  | .hbm, ⟨25, _⟩ => ⟨S_, .i32⟩
  | .hbm, ⟨26, _⟩ => ⟨S4x16x64x768, .i32⟩
  | .hbm, ⟨27, _⟩ => ⟨S4x16x64x768, .i32⟩
  | .hbm, ⟨28, _⟩ => ⟨S4x16x64x768, .i32⟩
  | .hbm, ⟨29, _⟩ => ⟨S4x16x64x768x1, .i32⟩
  | .hbm, ⟨30, _⟩ => ⟨S1, .i32⟩
  | .hbm, ⟨31, _⟩ => ⟨S_, .i32⟩
  | .hbm, ⟨32, _⟩ => ⟨S4x16x64x768x1, .i32⟩
  | .hbm, ⟨33, _⟩ => ⟨S4x16x64x768x1, .i1⟩
  | .hbm, ⟨34, _⟩ => ⟨S1x1x1x1x1, .i32⟩
  | .hbm, ⟨35, _⟩ => ⟨S4x16x64x768x1, .i32⟩
  | .hbm, ⟨36, _⟩ => ⟨S4x16x64x768x1, .i1⟩
  | .hbm, ⟨37, _⟩ => ⟨S4x16x64x768x1, .i1⟩
  | .hbm, ⟨38, _⟩ => ⟨S_, .i1⟩
  | .hbm, ⟨39, _⟩ => ⟨S4x16x64x768, .i1⟩
  | .hbm, ⟨40, _⟩ => ⟨S4x16x64x768, .f32⟩
  | .hbm, ⟨41, _⟩ => ⟨S_, .f32⟩
  | .hbm, ⟨42, _⟩ => ⟨S4x16x64x768, .f32⟩
  | .hbm, ⟨43, _⟩ => ⟨S4x16x64x768, .f32⟩
  | _, _ => ⟨S4x16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩

abbrev nD : Nat := 1
abbrev τ : Topo := Topo.v7x

variable {F : FTy → Type} [FloatOps F]
-- ==== Proof.Stages.lean ====
/- The kernel's sorting network on pairs of vectors: a [8, 128] vector of scores beside a [8, 128] vector of positions, eight frames
   (sublanes) at once, one list of 128 entries per sublane. `exchange` is one compare-exchange stage as the kernel writes it, `sortPair`
   and `mergePair` are its loops over the stages, `lists` its tree of merges, `positions` the positions it keeps. Nothing is proved
   here: these are names for what the kernel's text computes, at any reading of the floats. -/
module

public import proofs.«01_k».proof.Proof.Gen.KernelIdeal

@[expose] public section

noncomputable section

namespace Cert.KernelIdeal.TopK

open Idealize.ShloMosaic Cert.KernelIdeal Cert.KernelIdeal.Gen

variable {F : FTy → Type} [FloatOps F]

/-- Scores and positions, lane by lane. -/
abbrev Pair (F : FTy → Type) := FVec F S8x128 .f32 × IVec S8x128 32

/-- Each lane's number. -/
def lane : IVec S8x128 32 := iota .tc S8x128 32 [1] iota_S8x128_d1_w32

/-- The all-true mask. -/
def ones : IVec S8x128 1 := constantI S8x128 1 1#1

/-- The lanes whose number has bit `s` clear. -/
def bitClear (s : Nat) : IVec S8x128 1 :=
  cmpi .eq (andi lane (broadcast S8x128 (BitVec.ofNat 32 (2 ^ s)))) (broadcast S8x128 0#32)

/-- The lanes whose number has bit `s` set. -/
def bitSet (s : Nat) : IVec S8x128 1 :=
  cmpi .ne (andi lane (broadcast S8x128 (BitVec.ofNat 32 (2 ^ s)))) (broadcast S8x128 0#32)

/-- A direction mask for a descending list, negated for an ascending one. -/
def directed : Bool → IVec S8x128 1 → IVec S8x128 1
  | true, m => m
  | false, m => xori m ones

/-- The sort's mask at level `l`, distance `2 ^ s`. -/
def sortMask (desc : Bool) (l s : Nat) : IVec S8x128 1 :=
  directed desc (xori (xori (bitClear (l + 1)) (bitClear s)) ones)

/-- The merge's mask at distance `2 ^ s`. -/
def mergeMask (desc : Bool) (s : Nat) : IVec S8x128 1 := directed desc (bitClear s)

/-- Every lane's partner at distance `2 ^ s`: one of two rotations. -/
def partnerVec {α : Type} (s : Nat) (x : S8x128.Idx → α) : S8x128.Idx → α :=
  select (bitSet s) (dynamicRotate 1 (BitVec.ofNat 32 (2 ^ s)) none x rotates_S8x128_d1)
    (dynamicRotate 1 (BitVec.ofNat 32 (128 - 2 ^ s)) none x rotates_S8x128_d1)

/-- Where a lane keeps its own entry: where "mine comes first" agrees with the mask. -/
def keepMask (s : Nat) (m : IVec S8x128 1) (x : Pair F) : IVec S8x128 1 :=
  xori (xori m (ori (cmpf .ogt x.1 (partnerVec s x.1))
    (andi (cmpf .oeq x.1 (partnerVec s x.1)) (cmpi .slt x.2 (partnerVec s x.2))))) ones

/-- One compare-exchange stage. -/
def exchange (s : Nat) (m : IVec S8x128 1) (x : Pair F) : Pair F :=
  (select (keepMask s m x) x.1 (partnerVec s x.1), select (keepMask s m x) x.2 (partnerVec s x.2))

/-- The bitonic sort of 128 lanes: 28 stages. -/
def sortPair (desc : Bool) (x : Pair F) : Pair F :=
  (List.range 7).foldl (fun x l => (List.range (l + 1)).reverse.foldl (fun x s => exchange s (sortMask desc l s) x) x) x

/-- The bitonic merge of 128 lanes: 7 stages. -/
def mergePair (desc : Bool) (x : Pair F) : Pair F :=
  (List.range 7).reverse.foldl (fun x s => exchange s (mergeMask desc s) x) x

/-- The lower 64 lanes of one pair beside the upper 64 of another. -/
def join (x y : Pair F) : Pair F :=
  (select (cmpi .slt lane (broadcast S8x128 64#32)) x.1 y.1, select (cmpi .slt lane (broadcast S8x128 64#32)) x.2 y.2)

/-- Each 128-lane slice lies within the 1024 scores. -/
theorem slices (j : Fin 8) : S8x1024.Slices ![0, 128 * j.val] S8x128 := by revert j; decide

/-- Slice `j` of the scores beside its positions. -/
def chunk (S : FVec F S8x1024 .f32) (j : Fin 8) : Pair F :=
  (extractStridedSlice S8x128 ![0, 128 * j.val] S (slices j), addi lane (broadcast S8x128 (BitVec.ofNat 32 (128 * j.val))))

/-- List `m` of level `n` of the tree: sorted slices at the bottom, even ones descending and odd ones ascending; above, the merge of two
    neighbours, again alternating. -/
def lists (S : FVec F S8x1024 .f32) : Nat → Nat → Pair F
  | 0, m => sortPair (m % 2 == 0) (chunk S (Fin.ofNat 8 m))
  | n + 1, m => mergePair (m % 2 == 0) (join (lists S n (2 * m)) (lists S n (2 * m + 1)))

/-- The 64 kept positions of each frame, frame by column. -/
def positions (S : FVec F S8x1024 .f32) : IVec S64x8 32 :=
  transpose S64x8 [1, 0] (extractStridedSlice S8x64 ![0, 0] (lists S 3 0).2 slices_S8x128_o0_0_S8x64) transposes_S8x64_p1_0_S64x8

/-- Each column lies within the positions. -/
theorem columns (f : Fin 8) : S64x8.Slices ![0, f.val] S64x1 := by revert f; decide

/-- Frame `f`'s one-hot rows: row `k` marks the `k`-th kept position. -/
def oneHot (P : IVec S64x8 32) (f : Fin 8) : FVec F S64x1024 .f32 :=
  select (cmpi .eq (broadcastTo S64x1024 (extractStridedSlice S64x1 ![0, f.val] P (columns f)) broadcasts_S64x1_S64x1024)
      (broadcastTo S64x1024 (iota .tc S1x1024 32 [1] iota_S1x1024_d1_w32) broadcasts_S1x1024_S64x1024))
    (broadcast S64x1024 (Scalar.ofBits .f32 0x3F800000#32)) (broadcast S64x1024 (Scalar.ofBits .f32 0x00000000#32))

/-- Frame `f`'s kept tokens: its one-hot rows times its tokens. -/
def kept (P : IVec S64x8 32) (f : Fin 8) (X : Vec F S1x1x1024x768 .f32) : FVec F S1x1x64x768 .f32 :=
  shapeCast S1x1x64x768
    (matmul dot_S64x1024_S1024x768_S64x768_1_0_0_1_n_n none (oneHot P f)
      (shapeCast S1024x768 X shapeCasts_S1x1x1024x768_S1024x768) (constant S64x768 .f32 0x00000000#32))
    shapeCasts_S64x768_S1x1x64x768

end Cert.KernelIdeal.TopK

end
-- ==== Proof.Body.lean ====
/-
  WHAT ONE GRID POINT STORES. The body of the kernel stores eight rectangles, one per frame of its block: the frame's
  kept rows. The positions come from the scores of the block, through the selection of `Stages.lean`. Read at an index,
  the block holds, in row `k` of frame `f`, the row of frame `f` at the position the selection gives.
-/
module

public import proofs.«01_k».proof.Proof.Gen.KernelIdeal.Frame.RunA
public import proofs.«01_k».proof.Proof.Stages
public import Idealize.ShloMosaic.Lib.Tactic

@[expose] public section

-- the stores of the body are compared by unfolding the generated list, a deep term
set_option maxRecDepth 6553600

noncomputable section

namespace Cert.KernelIdeal.TopK

open Idealize.ShloMosaic Idealize.ShloMosaic.TcCoe Idealize.ShloMosaic.Tactic
open Idealize.SL Cert.KernelIdeal.Gen

variable {F : FTy → Type} [FloatOps F]

/-- Each frame's store lies within the block. -/
theorem storeIn (f : Fin 8) : ∀ i : Fin 4, (![0, f.val, 0, 0] : Fin 4 → ℕ) i + (![1, 1, 64, 768] : Fin 4 → ℕ) i ≤ S1x8x64x768.size i := by revert f; decide

/-- Each frame's load lies within the block. -/
theorem loadIn (f : Fin 8) : ∀ i : Fin 4, (![0, f.val, 0, 0] : Fin 4 → ℕ) i + (![1, 1, 1024, 768] : Fin 4 → ℕ) i ≤ S1x8x1024x768.size i := by revert f; decide

/-- The store of frame `f`: its kept rows, at the frame's place in the block. -/
def piece (P : IVec S64x8 32) (X : Fin 8 → Vec F S1x1x1024x768 .f32) (f : Fin 8) : View.Piece (Elt F) S1x8x64x768 .f32 :=
  ⟨Rect.unit ![0, f.val, 0, 0] ![1, 1, 64, 768] (storeIn f), kept P f (X f)⟩

/-- The body's stores, last first, are the eight frames' stores. -/
theorem pieces (c : Dev nD) (i : grid0.Coords) (arg1 : Memref sig .tc .vmem S1x8x1024x768 .f32) (harg1 : arg1.IsWhole) (arg2 : Memref sig .tc .vmem S1x8x1024 .i32) (harg2 : arg2.IsWhole) (arg3 : Memref sig .tc .vmem S768x1 .f32) (harg3 : arg3.IsWhole) (arg4 : Memref sig .tc .vmem S1x1 .f32) (harg4 : arg4.IsWhole) (arg5 : Memref sig .tc .vmem S1x8x64x768 .f32) (harg5 : arg5.IsWhole) (arg6 : Memref sig .tc .vmem S8x128 .f32) (harg6 : arg6.IsWhole)
    (x0 : Vec F S1x8x1024x768 .f32) (x1 : Vec F S1x8x1024 .i32) (x2 : Vec F S768x1 .f32) (x3 : Vec F S1x1 .f32) : (kernelRun0_A c i arg1 harg1 arg2 harg2 arg3 harg3 arg4 harg4 arg5 harg5 arg6 harg6 x0 x1 x2 x3).1 =
     ((List.finRange 8).reverse).map (piece (positions (k0_pay3 (F := F)
        (View.readAt (Elt F) arg1.view (Rect.unit ![0, 0, 0, 0] S1x8x1024x768.size inb_S1x8x1024x768_S1x8x1024x768_0_0_0_0).toLoadRect (harg1.unread x0))
        (View.readAt (Elt F) arg3.view (Rect.unit ![0, 0] S768x1.size inb_S768x1_S768x1_0_0).toLoadRect (harg3.unread x2))
        (View.readAt (Elt F) arg3.view (Rect.unit ![0, 0] S768x1.size inb_S768x1_S768x1_0_0).toLoadRect (harg3.unread x2))
        (View.readAt (Elt F) arg4.view (Rect.unit ![0, 0] S1x1.size inb_S1x1_S1x1_0_0).toLoadRect (harg4.unread x3))
        (View.readAt (Elt F) arg2.view (Rect.unit ![0, 0, 0] S1x8x1024.size inb_S1x8x1024_S1x8x1024_0_0_0).toLoadRect (harg2.unread x1))))
        (fun f => View.readAt (Elt F) arg1.view (Rect.unit ![0, f.val, 0, 0] ![1, 1, 1024, 768] (loadIn f)).toLoadRect (harg1.unread x0))) := by
  sl_kernel_rfl

end Cert.KernelIdeal.TopK
-- ==== Proof.OneHot.lean ====
/-
  WHAT A ONE-HOT PRODUCT COMPUTES. The kernel moves the kept rows of a frame by multiplying a 64 × 1024 matrix of zeros
  and ones with the frame: row `k` of that matrix has a one in the column whose number is the kept position `k`, and
  zeros elsewhere. Over the extended reals such a product IS the row at that position: every other term of the sum is
  zero times something, which is zero.
-/
module

public import proofs.«01_k».proof.Proof.Stages
public import Idealize.ShloMosaic.Lib.Pipeline.Value
public import Idealize.ShloMosaic.Lib.ValueIdx
public import Idealize.ShloMosaic.Lib.IdealHost
public import Idealize.ShloMosaic.Lib.Pointwise

@[expose] public section

noncomputable section

namespace Cert.KernelIdeal.TopK

open Idealize.ShloMosaic Idealize.ShloMosaic.TcCoe
open Cert.KernelIdeal Cert.KernelIdeal.Gen

/-- The one-hot matrix of frame `f` at row `k`, column `q`: one where the position of row `k` is `q`, else zero. -/
theorem oneHot_apply (P : IVec S64x8 32) (f : Fin 8) (k : Fin 64) (q : Fin 1024) :
    oneHot (F := Ideal) P f (ValueIdx.ix2 k q)
      = if P (ValueIdx.ix2 k f) = BitVec.ofNat 32 q.val then (1 : EReal) else 0 := by
  have hP : broadcastTo S64x1024 (extractStridedSlice S64x1 ![0, f.val] P (columns f)) broadcasts_S64x1_S64x1024
      (ValueIdx.ix2 k q) = P (ValueIdx.ix2 k f) := by
    rw [broadcastTo_apply _ _ _ (ValueIdx.ix2 k (0 : Fin 1)) (fun a => by
      have ha : a = 0 ∨ a = 1 := (by decide : ∀ a : Fin 2, a = 0 ∨ a = 1) a
      rcases ha with rfl | rfl <;> rfl)]
    refine congrArg P (funext fun a => Fin.ext ?_)
    have ha : a = 0 ∨ a = 1 := (by decide : ∀ a : Fin 2, a = 0 ∨ a = 1) a
    rcases ha with rfl | rfl
    · show 0 + k.val = k.val
      omega
    · rfl
  have hq : broadcastTo S64x1024 (iota .tc S1x1024 32 [1] iota_S1x1024_d1_w32) broadcasts_S1x1024_S64x1024
      (ValueIdx.ix2 k q) = BitVec.ofNat 32 q.val := by
    rw [broadcastTo_apply _ _ _ (ValueIdx.ix2 (0 : Fin 1) q) (fun a => by
      have ha : a = 0 ∨ a = 1 := (by decide : ∀ a : Fin 2, a = 0 ∨ a = 1) a
      rcases ha with rfl | rfl <;> rfl)]
    refine congrArg (BitVec.ofNat 32) ?_
    show 0 * 1024 + q.val = q.val
    omega
  show Scalar.select (IntOp.cmpi .eq (broadcastTo S64x1024 (extractStridedSlice S64x1 ![0, f.val] P (columns f))
      broadcasts_S64x1_S64x1024 (ValueIdx.ix2 k q)) (broadcastTo S64x1024 (iota .tc S1x1024 32 [1] iota_S1x1024_d1_w32)
      broadcasts_S1x1024_S64x1024 (ValueIdx.ix2 k q)))
    (Ideal.ofBits .f32 0x3F800000#32) (Ideal.ofBits .f32 0x00000000#32) = _
  rw [hP, hq, Ideal.ofBits_one_f32, Ideal.ofBits_zero_f32]
  by_cases h : P (ValueIdx.ix2 k f) = BitVec.ofNat 32 q.val
  · rw [if_pos h, h]
    simp [Scalar.select, IntOp.cmpi]
  · rw [if_neg h]
    simp [Scalar.select, IntOp.cmpi, beq_eq_false_iff_ne.mpr h]

/-- The kept rows of frame `f`: row `k` of the product is the frame's row at the position of row `k`. -/
theorem kept_apply (P : IVec S64x8 32) (f : Fin 8) (X : FVec Ideal S1x1x1024x768 .f32) (k : Fin 64) (d : Fin 768)
    (p : Fin 1024) (hp : P (ValueIdx.ix2 k f) = BitVec.ofNat 32 p.val) :
    kept (F := Ideal) P f X (ValueIdx.ix4 0 0 k d) = X (ValueIdx.ix4 0 0 p d) := by
  have hX : ∀ q : Fin 1024, shapeCast S1024x768 X shapeCasts_S1x1x1024x768_S1024x768 (ValueIdx.ix2 q d)
      = X (ValueIdx.ix4 0 0 q d) := fun q =>
    shapeCast_apply _ _ _ (ValueIdx.ix4 0 0 q d) (by
      rw [Shape.rowMajor_val_two, Shape.rowMajor_val_four]
      show ((0 * 1 + 0) * 1024 + q.val) * 768 + d.val = q.val * 768 + d.val
      omega)
  unfold kept
  rw [shapeCast_apply _ _ _ (ValueIdx.ix2 k d) (by
    rw [Shape.rowMajor_val_two, Shape.rowMajor_val_four]
    show k.val * 768 + d.val = ((0 * 1 + 0) * 64 + k.val) * 768 + d.val
    omega)]
  have hsum := Ideal.matmul_apply₁_of dot_S64x1024_S1024x768_S64x768_1_0_0_1_n_n (a := 1) rfl (K := 1024) rfl
    (oneHot (F := Ideal) P f) (shapeCast S1024x768 X shapeCasts_S1x1x1024x768_S1024x768)
    (constant (F := Ideal) S64x768 .f32 0x00000000#32) (ValueIdx.ix2 k d) (fun q => ValueIdx.ix2 k q)
    (fun q => ValueIdx.ix2 q d)
    (fun q => by funext a; refine Fin.ext ?_; have ha : a = 0 ∨ a = 1 := (by decide : ∀ a : Fin 2, a = 0 ∨ a = 1) a
                 rcases ha with rfl | rfl <;> rfl)
    (fun q => by funext a; refine Fin.ext ?_; have ha : a = 0 ∨ a = 1 := (by decide : ∀ a : Fin 2, a = 0 ∨ a = 1) a
                 rcases ha with rfl | rfl <;> rfl)
  refine hsum.trans ?_
  rw [show constant (F := Ideal) S64x768 .f32 0x00000000#32 (ValueIdx.ix2 k d) = (0 : EReal) from Ideal.ofBits_zero_f32,
    zero_add, Finset.sum_eq_single p]
  · rw [oneHot_apply, if_pos hp, one_mul, hX]
  · intro q _ hq
    rw [oneHot_apply, if_neg, zero_mul]
    intro h
    refine hq (Fin.ext ?_)
    have e := congrArg BitVec.toNat (h.symm.trans hp)
    simp only [BitVec.toNat_ofNat] at e
    have := q.isLt; have := p.isLt
    omega
  · intro h; exact absurd (Finset.mem_univ _) h

end Cert.KernelIdeal.TopK
-- ==== Proof.Top.lean ====
/- The selection as mathematics, free of vectors: entries (a score and its position, greater scores first and lower positions first among
   equal scores), the network's lists of 128 entries, and what the tree of merges leaves: its first 64 entries are the 64 greatest of all
   1024. The comparator networks and the facts that they sort and merge are the library's (Lib/SortNet). -/
module

public import Idealize.ShloMosaic.Lib.SortNet.Sorts
public import Idealize.ShloMosaic.Lib.SortNet.TopList
public import Mathlib.Data.EReal.Basic
public import Mathlib.Data.Prod.Lex
public import Mathlib.Data.List.FinRange

@[expose] public section

noncomputable section

namespace Cert.KernelIdeal.TopK

open Idealize.ShloMosaic.SortNet

/-- A score and its position; the greater entry has the greater score or, at equal scores, the lower position. -/
abbrev Ent := EReal ×ₗ ℕᵒᵈ

/-- An entry's score. -/
def score (e : Ent) : EReal := (ofLex e).1

/-- An entry's position. -/
def pos (e : Ent) : ℕ := OrderDual.ofDual (ofLex e).2

/-- The entry of position `p` under the scores `s`. -/
def ent (s : ℕ → EReal) (p : ℕ) : Ent := toLex (s p, OrderDual.toDual p)

@[simp] theorem score_ent (s : ℕ → EReal) (p : ℕ) : score (ent s p) = s p := rfl
@[simp] theorem pos_ent (s : ℕ → EReal) (p : ℕ) : pos (ent s p) = p := rfl

theorem lt_iff (e e' : Ent) : e' < e ↔ score e' < score e ∨ (score e' = score e ∧ pos e < pos e') :=
  Prod.Lex.lt_iff

theorem ent_injective (s : ℕ → EReal) : Function.Injective (ent s) := fun p q h => by
  have := congrArg pos h
  simpa using this

/-- A list of 128 entries. -/
abbrev Row := Fin (2 ^ 7) → Ent

/-- The list in one direction. -/
def InDir (desc : Bool) (E : Row) : Prop := if desc then Antitone E else Monotone E

/-- The list read from its greatest entry. -/
def down (desc : Bool) (E : Row) : List Ent := if desc then List.ofFn E else (List.ofFn E).reverse

/-- The bitonic sort. -/
def sorted (desc : Bool) (E : Row) : Row := Network.apply (sortNet 7 desc) E

/-- The bitonic merge. -/
def merged (desc : Bool) (E : Row) : Row :=
  Network.apply ((List.range 7).reverse.flatMap fun s => stage 7 s fun _ => desc) E

/-- The lower half of one list beside the upper half of another. -/
def joined (A B : Row) : Row := fun i => if i.val < 64 then A i else B i

/-- List `m` of level `n` of the tree of merges. -/
def level (s : ℕ → EReal) : ℕ → ℕ → Row
  | 0, m => sorted (m % 2 == 0) fun i => ent s (128 * (m % 8) + i.val)
  | n + 1, m => merged (m % 2 == 0) (joined (level s n (2 * m)) (level s n (2 * m + 1)))

/-- The positions under list `m` of level `n`. -/
def under : ℕ → ℕ → List ℕ
  | 0, m => List.range' (128 * (m % 8)) 128
  | n + 1, m => under n (2 * m) ++ under n (2 * m + 1)

theorem under_all : under 3 0 = List.range 1024 := by decide +kernel

theorem down_perm (desc : Bool) (E : Row) : (down desc E).Perm (List.ofFn E) := by
  unfold down
  cases desc
  · exact List.reverse_perm _
  · exact List.Perm.refl _

theorem pairwise_down {desc : Bool} {E : Row} (h : InDir desc E) : (down desc E).Pairwise (· ≥ ·) := by
  unfold down
  unfold InDir at h
  cases desc
  · exact List.pairwise_reverse.mpr (List.pairwise_ofFn.mpr fun i j hij => h hij.le)
  · exact List.pairwise_ofFn.mpr fun i j hij => h hij.le

/-- A sorted list's first 64 entries are the 64 greatest of any rearrangement of it. -/
theorem take_down {desc : Bool} {E : Row} (h : InDir desc E) {l : List Ent} (hl : (List.ofFn E).Perm l) :
    (down desc E).take 64 = topList 64 l := by
  unfold topList
  rw [eq_of_perm_of_descending (((down_perm desc E).trans hl).trans (List.perm_insertionSort (· ≥ ·) l).symm)
    (pairwise_down h) (List.pairwise_insertionSort (· ≥ ·) l)]

/-- A network rearranges a list. -/
theorem ofFn_apply_perm (N : Network (2 ^ 7)) (E : Row) : (List.ofFn (Network.apply N E)).Perm (List.ofFn E) := by
  obtain ⟨σ, h⟩ := Network.exists_perm N E
  rw [h]
  exact Equiv.Perm.ofFn_comp_perm σ E

theorem sorted_inDir (desc : Bool) (E : Row) : InDir desc (sorted desc E) := by
  unfold InDir sorted
  cases desc
  · exact sortNet_apply_monotone 7 E
  · exact sortNet_apply_antitone 7 E

/-- The lower half of a descending list beside the upper half of an ascending one descends, then ascends. -/
theorem joined_descAsc {A B : Row} (hA : InDir true A) (hB : InDir false B) : DescAsc (joined A B) := by
  refine ⟨64, Or.inl ⟨fun i j hij hj => ?_, fun i j hij hi => ?_⟩⟩
  · have hi : i.val < 64 := lt_of_le_of_lt hij hj
    simp only [joined, hi, hj, if_true]
    exact hA hij
  · have h1 : ¬i.val < 64 := not_lt.mpr hi
    have h2 : ¬j.val < 64 := not_lt.mpr (le_trans hi hij)
    simp only [joined, h1, h2, if_false]
    exact hB hij

theorem merged_inDir (desc : Bool) {A B : Row} (hA : InDir true A) (hB : InDir false B) :
    InDir desc (merged desc (joined A B)) := by
  unfold InDir merged
  cases desc
  · exact mergeAscNet_apply_monotone 7 _ (joined_descAsc hA hB)
  · exact mergeDescNet_apply_antitone 7 _ (joined_descAsc hA hB)

/-- The joined list holds the first 64 entries of each. -/
theorem ofFn_joined_perm (A B : Row) :
    (List.ofFn (joined A B)).Perm ((down true A).take 64 ++ (down false B).take 64) := by
  have e : List.ofFn (joined A B) = (List.ofFn A).take 64 ++ (List.ofFn B).drop 64 := by
    refine List.ext_getElem (by simp only [List.length_append, List.length_take, List.length_drop, List.length_ofFn]; rfl)
      fun n h1 h2 => ?_
    have hl : ((List.ofFn A).take 64).length = 64 := by rw [List.length_take, List.length_ofFn]; rfl
    rw [List.getElem_ofFn, List.getElem_append]
    by_cases hn : n < 64
    · rw [dif_pos (by rw [hl]; exact hn), List.getElem_take, List.getElem_ofFn]
      simp only [joined, hn, if_true]
    · rw [dif_neg (by rw [hl]; exact hn), List.getElem_drop, List.getElem_ofFn]
      have e : 64 + (n - ((List.ofFn A).take 64).length) = n := by rw [hl]; omega
      simp only [joined, hn, if_false, e]
  rw [e]
  unfold down
  simp only [if_true, Bool.false_eq_true, if_false]
  refine List.Perm.append_left _ ?_
  rw [List.take_reverse, List.length_ofFn]
  exact (List.reverse_perm _).symm

/-- EVERY LIST OF THE TREE is sorted in its direction, and its first 64 entries are the 64 greatest under it. -/
theorem level_spec (s : ℕ → EReal) : ∀ n m : ℕ, InDir (m % 2 == 0) (level s n m) ∧
    (down (m % 2 == 0) (level s n m)).take 64 = topList 64 ((under n m).map (ent s))
  | 0, m => by
    refine ⟨sorted_inDir _ _, take_down (sorted_inDir _ _) ((ofFn_apply_perm _ _).trans ?_)⟩
    refine List.Perm.of_eq (List.ext_getElem (by
      rw [List.length_ofFn, List.length_map, under, List.length_range']; rfl) fun n h1 h2 => ?_)
    simp only [under, List.getElem_ofFn, List.getElem_map, List.getElem_range', Nat.one_mul]
  | n + 1, m => by
    have h1 := level_spec s n (2 * m)
    have h2 := level_spec s n (2 * m + 1)
    rw [show (2 * m) % 2 = 0 by omega] at h1
    rw [show (2 * m + 1) % 2 = 1 by omega] at h2
    have hd := merged_inDir (m % 2 == 0) h1.1 h2.1
    refine ⟨hd, ?_⟩
    have e := take_down hd ((ofFn_apply_perm _ _).trans (ofFn_joined_perm _ _))
    show (down _ (merged _ (joined _ _))).take 64 = _
    rw [e]
    have a1 : (down true (level s n (2 * m))).take 64 = _ := h1.2
    have a2 : (down false (level s n (2 * m + 1))).take 64 = _ := h2.2
    rw [a1, a2, topList_append_topList_topList, under, List.map_append]

/-- THE KEPT ENTRIES: the first 64 entries of the last list are the 64 greatest of all 1024. -/
theorem level_top (s : ℕ → EReal) : (List.ofFn (level s 3 0)).take 64 = topList 64 ((List.range 1024).map (ent s)) := by
  have h := (level_spec s 3 0).2
  rw [under_all] at h
  exact h

/-- The kept positions: all different, in the order of their entries, none left out greater than one kept. -/
theorem level_positions (s : ℕ → EReal) : ∃ σ : Fin 64 → Fin 1024, Function.Injective σ ∧
    (∀ k : Fin 64, level s 3 0 ⟨k.val, by have := k.isLt; omega⟩ = ent s (σ k).val) ∧
    (∀ i j : Fin 64, i < j → ent s (σ j).val < ent s (σ i).val) ∧
    (∀ (i : Fin 64) (p : Fin 1024), (∀ j, σ j ≠ p) → ent s p.val ≤ ent s (σ i).val) := by
  have hlen : (topList 64 ((List.range 1024).map (ent s))).length = 64 := by rw [length_topList]; simp
  have hnd : (topList 64 ((List.range 1024).map (ent s))).Nodup :=
    nodup_topList (List.Nodup.map (ent_injective s) List.nodup_range)
  have hget : ∀ k : Fin 64, level s 3 0 ⟨k.val, by have := k.isLt; omega⟩
      = (topList 64 ((List.range 1024).map (ent s)))[k.val]'(by rw [hlen]; exact k.isLt) := fun k => by
    have e : ((List.ofFn (level s 3 0)).take 64)[k.val]'(by
      have := k.isLt; rw [List.length_take, List.length_ofFn]; exact this)
        = (topList 64 ((List.range 1024).map (ent s)))[k.val]'(by rw [hlen]; exact k.isLt) := by
      congr 1
      exact level_top s
    rw [← e, List.getElem_take, List.getElem_ofFn]
  have hmem : ∀ k : Fin 64, ∃ p : Fin 1024,
      (topList 64 ((List.range 1024).map (ent s)))[k.val]'(by rw [hlen]; exact k.isLt) = ent s p.val := fun k => by
    have := mem_of_mem_topList (List.getElem_mem (l := topList 64 ((List.range 1024).map (ent s))) (n := k.val)
      (by rw [hlen]; exact k.isLt))
    obtain ⟨p, hp, e⟩ := List.mem_map.mp this
    exact ⟨⟨p, List.mem_range.mp hp⟩, e.symm⟩
  choose σ hσ using hmem
  have hinj : Function.Injective σ := fun i j h => by
    have e := (hσ i).trans ((congrArg (fun p : Fin 1024 => ent s p.val) h).trans (hσ j).symm)
    exact Fin.ext ((List.Nodup.getElem_inj_iff hnd).mp e)
  refine ⟨σ, hinj, fun k => (hget k).trans (hσ k), fun i j hij => ?_, fun i p hp => ?_⟩
  · have h := List.pairwise_iff_getElem.mp (pairwise_topList 64 ((List.range 1024).map (ent s))) i.val j.val
      (by rw [hlen]; exact i.isLt) (by rw [hlen]; exact j.isLt) hij
    rw [hσ i, hσ j] at h
    refine lt_of_le_of_ne h fun e => ?_
    exact absurd (hinj (Fin.ext (ent_injective s e))) (ne_of_gt hij)
  · rw [← hσ i]
    refine le_of_not_mem_topList (List.getElem_mem _) (List.mem_map.mpr ⟨p.val, List.mem_range.mpr p.isLt, rfl⟩) fun hm => ?_
    obtain ⟨n, hn, e⟩ := List.getElem_of_mem hm
    rw [hlen] at hn
    refine hp ⟨n, hn⟩ (Fin.ext (ent_injective s ?_))
    rw [← e]
    exact (hσ ⟨n, hn⟩).symm

end Cert.KernelIdeal.TopK

end
-- ==== Proof.Network.lean ====
/- The kernel's sorting network, read on the reals: along one frame's 128 lanes a pair of vectors holds 128 entries, and each piece of
   the network leaves the entries that the same piece of the mathematics (Top.lean) leaves. `lists_holds` is the whole tree of merges,
   `positions_apply` the kept positions read at one place. -/
module

public import proofs.«01_k».proof.Proof.Stages
public import proofs.«01_k».proof.Proof.Top
public import Idealize.ShloMosaic.Lib.SortNet.Printed
public import Idealize.ShloMosaic.Lib.ValueIdx

@[expose] public section

noncomputable section

namespace Cert.KernelIdeal.TopK

open Idealize.ShloMosaic Idealize.ShloMosaic.SortNet Cert.KernelIdeal Cert.KernelIdeal.Gen

/-- Frame `r`'s lanes. -/
def row (r : Fin 8) : Column S8x128 1 7 where
  col i := ValueIdx.ix2 r i
  size_eq := rfl
  coord _ := rfl
  other i i' b hb := by
    match b with
    | ⟨0, _⟩ => rfl
    | ⟨1, _⟩ => exact absurd rfl hb

/-- Frame `r` of the pair `x` holds the entries `E`: their scores beside their positions, which are below 1024. -/
def Holds (r : Fin 8) (x : Pair Ideal) (E : Row) : Prop :=
  ∀ i, x.1 ((row r).col i) = score (E i) ∧ x.2 ((row r).col i) = BitVec.ofNat 32 (pos (E i)) ∧ pos (E i) < 1024

theorem lane_apply (r : Fin 8) (i : Fin (2 ^ 7)) : lane ((row r).col i) = BitVec.ofNat 32 i.val :=
  (row r).iota_apply .tc iota_S8x128_d1_w32 i

theorem toNat_two_pow {s : ℕ} (hs : s ≤ 7) : (BitVec.ofNat 32 (2 ^ s)).toNat = 2 ^ s := by
  rw [BitVec.toNat_ofNat]
  exact Nat.mod_eq_of_lt (lt_of_le_of_lt (Nat.pow_le_pow_right (by decide) hs) (by decide))

theorem bitClear_apply (r : Fin 8) {s : ℕ} (hs : s ≤ 7) (i : Fin (2 ^ 7)) :
    bitClear s ((row r).col i) = BitVec.ofBool (decide (i.val &&& 2 ^ s = 0)) := by
  have hi : i.val < 2 ^ 32 := lt_of_lt_of_le i.isLt (Nat.pow_le_pow_right (by decide) (by decide))
  show BitVec.ofBool (IntOp.andi (lane ((row r).col i)) (BitVec.ofNat 32 (2 ^ s)) == 0#32) = _
  rw [lane_apply]
  congr 1
  rw [Bool.eq_iff_iff, beq_iff_eq, decide_eq_true_eq, and_distance_eq_zero_iff hi _ (toNat_two_pow hs)]

theorem bitSet_apply (r : Fin 8) {s : ℕ} (hs : s ≤ 7) (i : Fin (2 ^ 7)) :
    bitSet s ((row r).col i) = BitVec.ofBool (decide (i.val &&& 2 ^ s ≠ 0)) :=
  upper_apply (row r) (by decide) lane (lane_apply r) _ (toNat_two_pow hs) i

theorem directed_apply (r : Fin 8) (desc : Bool) {m : IVec S8x128 1} {b : Fin (2 ^ 7) → Bool}
    (hm : ∀ i, m ((row r).col i) = BitVec.ofBool (b i)) (i : Fin (2 ^ 7)) :
    directed desc m ((row r).col i) = BitVec.ofBool (b i == desc) := by
  cases desc
  · refine (xori_one_apply m (b i) _ (hm i)).trans ?_
    cases b i <;> rfl
  · refine (hm i).trans ?_
    cases b i <;> rfl

/-- The sort's mask is the printed form of its direction. -/
theorem sortMask_apply (r : Fin 8) (desc : Bool) {l s : ℕ} (hl : l < 7) (hs : s ≤ l) (i : Fin (2 ^ 7)) :
    sortMask desc l s ((row r).col i)
      = BitVec.ofBool (upperXor s (fun i : Fin (2 ^ 7) => decide (i.val &&& 2 ^ (l + 1) = 0) == desc) i) := by
  unfold sortMask
  refine (directed_apply r desc (fun i => xori_one_apply _ _ _ (xori_apply_ofBool _ _ _ _ _
    (bitClear_apply r (Nat.succ_le_of_lt hl) i) (bitClear_apply r (hs.trans hl.le) i))) i).trans ?_
  unfold upperXor
  by_cases h1 : i.val &&& 2 ^ (l + 1) = 0 <;> by_cases h2 : i.val &&& 2 ^ s = 0 <;> cases desc <;> simp [h1, h2]

/-- The merge's mask is the printed form of its direction. -/
theorem mergeMask_apply (r : Fin 8) (desc : Bool) {s : ℕ} (hs : s ≤ 7) (i : Fin (2 ^ 7)) :
    mergeMask desc s ((row r).col i) = BitVec.ofBool (upperXor s (fun _ : Fin (2 ^ 7) => desc) i) := by
  unfold mergeMask
  refine (directed_apply r desc (bitClear_apply r hs) i).trans ?_
  unfold upperXor
  by_cases h2 : i.val &&& 2 ^ s = 0 <;> cases desc <;> simp [h2]

theorem partnerVec_apply {α : Type} (r : Fin 8) {s : ℕ} (hs : s < 7) (x : S8x128.Idx → α) (i : Fin (2 ^ 7)) :
    partnerVec s x ((row r).col i) = x ((row r).col (partner 7 s i)) := by
  refine printedPartner_apply (row r) hs rotates_S8x128_d1 (bitSet s) (bitSet_apply r hs.le) _ _ (toNat_two_pow hs.le) ?_ x i
  rw [BitVec.toNat_ofNat]
  exact Nat.mod_eq_of_lt (lt_of_le_of_lt (Nat.sub_le _ _) (by decide))

/-- Positions below 1024 compare as numbers. -/
theorem slt_ofNat {p q : ℕ} (hp : p < 1024) (hq : q < 1024) :
    IntOp.cmpi .slt (BitVec.ofNat 32 p) (BitVec.ofNat 32 q) = BitVec.ofBool (decide (p < q)) := by
  show BitVec.ofBool ((BitVec.ofNat 32 p).slt (BitVec.ofNat 32 q)) = _
  congr 1
  have hp' : (BitVec.ofNat 32 p).toInt = p := by
    rw [BitVec.toInt_eq_toNat_of_lt (by rw [BitVec.toNat_ofNat, Nat.mod_eq_of_lt] <;> omega), BitVec.toNat_ofNat,
      Nat.mod_eq_of_lt (by omega)]
  have hq' : (BitVec.ofNat 32 q).toInt = q := by
    rw [BitVec.toInt_eq_toNat_of_lt (by rw [BitVec.toNat_ofNat, Nat.mod_eq_of_lt] <;> omega), BitVec.toNat_ofNat,
      Nat.mod_eq_of_lt (by omega)]
  rw [BitVec.slt_eq_decide, hp', hq', Bool.eq_iff_iff]
  simp only [decide_eq_true_eq, Int.ofNat_lt, Nat.cast_lt]

/-- "Mine comes first", as the kernel computes it from scores and positions. -/
theorem first_apply (e e' : Ent) (he : pos e < 1024) (he' : pos e' < 1024) :
    IntOp.ori (Ideal.cmp .ogt (score e) (score e'))
        (IntOp.andi (Ideal.cmp .oeq (score e) (score e')) (IntOp.cmpi .slt (BitVec.ofNat 32 (pos e)) (BitVec.ofNat 32 (pos e'))))
      = BitVec.ofBool (decide (e' < e)) := by
  rw [slt_ofNat he he']
  have h1 : Ideal.cmp .ogt (score e) (score e') = BitVec.ofBool (decide (score e' < score e)) := rfl
  have h2 : Ideal.cmp .oeq (score e) (score e') = BitVec.ofBool (decide (score e' = score e)) := by
    show BitVec.ofBool (decide (score e = score e')) = _
    congr 1
    exact decide_eq_decide.mpr eq_comm
  have h3 : decide (e' < e) = decide (score e' < score e ∨ (score e' = score e ∧ pos e < pos e')) :=
    decide_eq_decide.mpr (lt_iff e e')
  rw [h1, h2, h3]
  by_cases a : score e' < score e <;> by_cases b : score e' = score e <;> by_cases c : pos e < pos e' <;>
    simp [a, b, c, IntOp.ori, IntOp.andi]

/-- ONE STAGE, on the entries. -/
theorem exchange_holds (r : Fin 8) {s : ℕ} (hs : s < 7) {m : IVec S8x128 1} {low : Fin (2 ^ 7) → Bool}
    (hm : ∀ i, m ((row r).col i) = BitVec.ofBool (upperXor s low i)) (hlow : ∀ i, low (partner 7 s i) = low i)
    {x : Pair Ideal} {E : Row} (hE : Holds r x E) :
    Holds r (exchange s m x) (Network.apply (stage 7 s low) E) := by
  intro i
  obtain ⟨h1, h2, h3⟩ := hE i
  obtain ⟨p1, p2, p3⟩ := hE (partner 7 s i)
  have hk : keepMask s m x ((row r).col i)
      = BitVec.ofBool (decide (decide (E (partner 7 s i) < E i) = upperXor s low i)) := by
    show IntOp.xori (IntOp.xori (m ((row r).col i)) (IntOp.ori
        (Ideal.cmp .ogt (x.1 ((row r).col i)) (partnerVec s x.1 ((row r).col i)))
        (IntOp.andi (Ideal.cmp .oeq (x.1 ((row r).col i)) (partnerVec s x.1 ((row r).col i)))
          (IntOp.cmpi .slt (x.2 ((row r).col i)) (partnerVec s x.2 ((row r).col i)))))) 1#1 = _
    rw [partnerVec_apply r hs, partnerVec_apply r hs, h1, h2, p1, p2, first_apply _ _ h3 p3, hm, ofBool_xor_xor_one]
    congr 1
    exact decide_eq_decide.mpr eq_comm
  rw [← stage_upperXor 7 s low, apply_stage_select hs _ (fun j => upperXor_partner hs low j (hlow j))]
  have e1 : (exchange s m x).1 ((row r).col i)
      = Scalar.select (keepMask s m x ((row r).col i)) (x.1 ((row r).col i)) (partnerVec s x.1 ((row r).col i)) := rfl
  have e2 : (exchange s m x).2 ((row r).col i)
      = Scalar.select (keepMask s m x ((row r).col i)) (x.2 ((row r).col i)) (partnerVec s x.2 ((row r).col i)) := rfl
  rw [e1, e2, hk, select_ofBool, select_ofBool, partnerVec_apply r hs, partnerVec_apply r hs]
  by_cases hc : decide (E (partner 7 s i) < E i) = upperXor s low i
  · rw [decide_eq_true hc, if_pos rfl, if_pos rfl, if_pos hc]
    exact ⟨h1, h2, h3⟩
  · rw [decide_eq_false hc, if_neg Bool.false_ne_true, if_neg Bool.false_ne_true, if_neg hc]
    exact ⟨p1, p2, p3⟩

/-- A loop of steps that each leave a network's entries leaves the networks' composition's. -/
theorem foldl_holds (r : Fin 8) {f : ℕ → Pair Ideal → Pair Ideal} {N : ℕ → Network (2 ^ 7)} :
    ∀ (l : List ℕ), (∀ a ∈ l, ∀ x E, Holds r x E → Holds r (f a x) (Network.apply (N a) E)) →
      ∀ x E, Holds r x E → Holds r (l.foldl (fun x a => f a x) x) (Network.apply (l.flatMap N) E)
  | [], _, _, _, h => h
  | a :: l, hf, x, E, h => by
    rw [List.foldl_cons, List.flatMap_cons, Network.apply_append]
    exact foldl_holds r l (fun b hb => hf b (List.mem_cons_of_mem a hb)) _ _ (hf a List.mem_cons_self x E h)

/-- THE SORT, on the entries. -/
theorem sortPair_holds (r : Fin 8) (desc : Bool) {x : Pair Ideal} {E : Row} (hE : Holds r x E) :
    Holds r (sortPair desc x) (sorted desc E) := by
  unfold sortPair sorted sortNet
  refine foldl_holds r (List.range 7) (fun l hl x E h => ?_) x E hE
  have hl' := List.mem_range.mp hl
  refine foldl_holds r (f := fun s x => exchange s (sortMask desc l s) x) _ (fun s hs x E h => ?_) x E h
  have hs' : s ≤ l := Nat.lt_succ_iff.mp (List.mem_range.mp (List.mem_reverse.mp hs))
  exact exchange_holds r (by omega) (sortMask_apply r desc hl' hs') (sizeClear_partner (by omega) hs' desc) h

/-- THE MERGE, on the entries. -/
theorem mergePair_holds (r : Fin 8) (desc : Bool) {x : Pair Ideal} {E : Row} (hE : Holds r x E) :
    Holds r (mergePair desc x) (merged desc E) := by
  unfold mergePair merged
  refine foldl_holds r (f := fun s x => exchange s (mergeMask desc s) x) _ (fun s hs x E h => ?_) x E hE
  have hs' := List.mem_range.mp (List.mem_reverse.mp hs)
  exact exchange_holds r hs' (mergeMask_apply r desc hs'.le) (fun _ => rfl) h

/-- Half of one list beside half of another, on the entries. -/
theorem join_holds (r : Fin 8) {x y : Pair Ideal} {A B : Row} (hA : Holds r x A) (hB : Holds r y B) :
    Holds r (join x y) (joined A B) := by
  intro i
  have hc : cmpi .slt lane (broadcast S8x128 64#32) ((row r).col i) = BitVec.ofBool (decide (i.val < 64)) := by
    show IntOp.cmpi .slt (lane ((row r).col i)) (BitVec.ofNat 32 64) = _
    rw [lane_apply]
    exact slt_ofNat (lt_of_lt_of_le i.isLt (by decide)) (by decide)
  have e1 : (join x y).1 ((row r).col i) = Scalar.select (cmpi .slt lane (broadcast S8x128 64#32) ((row r).col i))
      (x.1 ((row r).col i)) (y.1 ((row r).col i)) := rfl
  have e2 : (join x y).2 ((row r).col i) = Scalar.select (cmpi .slt lane (broadcast S8x128 64#32) ((row r).col i))
      (x.2 ((row r).col i)) (y.2 ((row r).col i)) := rfl
  rw [e1, e2, hc, select_ofBool, select_ofBool]
  unfold joined
  by_cases hi : i.val < 64
  · simp only [hi, decide_true, if_true]
    exact hA i
  · simp only [hi, decide_false, if_false, Bool.false_eq_true]
    exact hB i

/-- Frame `r`'s scores, by position. -/
def rowScores (S : FVec Ideal S8x1024 .f32) (r : Fin 8) (p : ℕ) : EReal := S (ValueIdx.ix2 r (Fin.ofNat 1024 p))

/-- A slice of the scores beside its positions, on the entries. -/
theorem chunk_holds (S : FVec Ideal S8x1024 .f32) (r j : Fin 8) :
    Holds r (chunk S j) fun i => ent (rowScores S r) (128 * j.val + i.val) := by
  intro i
  have hj := j.isLt
  have hi : i.val < 128 := i.isLt
  have hlt : 128 * j.val + i.val < 1024 := by omega
  refine ⟨?_, ?_, hlt⟩
  · show S _ = S _
    congr 1
    funext a
    match a with
    | ⟨0, _⟩ => exact Fin.ext (Nat.zero_add _)
    | ⟨1, _⟩ => exact Fin.ext (Nat.mod_eq_of_lt hlt).symm
  · show IntOp.addi (lane ((row r).col i)) (BitVec.ofNat 32 (128 * j.val)) = _
    rw [lane_apply]
    show BitVec.ofNat 32 i.val + BitVec.ofNat 32 (128 * j.val) = _
    rw [← BitVec.ofNat_add, Nat.add_comm]
    rfl

/-- EVERY LIST OF THE TREE, on the entries. -/
theorem lists_holds (S : FVec Ideal S8x1024 .f32) (r : Fin 8) :
    ∀ n m : ℕ, Holds r (lists S n m) (level (rowScores S r) n m)
  | 0, m => sortPair_holds r _ (chunk_holds S r (Fin.ofNat 8 m))
  | n + 1, m => mergePair_holds r _ (join_holds r (lists_holds S r n (2 * m)) (lists_holds S r n (2 * m + 1)))

/-- THE KEPT POSITIONS: place `k` of frame `f`. -/
theorem positions_apply (S : FVec Ideal S8x1024 .f32) (k : Fin 64) (f : Fin 8) :
    positions S (ValueIdx.ix2 k f) = BitVec.ofNat 32 (pos (level (rowScores S f) 3 0 (k.castLE (by decide)))) := by
  rw [← (lists_holds S f 3 0 (k.castLE (by decide))).2.1]
  refine congrArg (lists S 3 0).2 (funext fun a => ?_)
  match a with
  | ⟨0, _⟩ => exact Fin.ext (Nat.zero_add _)
  | ⟨1, _⟩ => exact Fin.ext (Nat.zero_add _)

end Cert.KernelIdeal.TopK

end
-- ==== Proof.RefTop.lean ====
/- The reference's top-k: a stable sort of a frame's 1024 positions by their scores alone, greatest first, cut to 64. A stable sort by the
   score is the sort by the score and then the position, so its first 64 positions are those of the 64 greatest entries (Top.lean). -/
module

public import proofs.«01_k».proof.Proof.Top
public import Idealize.ShloMosaic.Lib.SortPrefix
public import Idealize.ShloMosaic.Lib.ValueIdx

@[expose] public section

noncomputable section

namespace Cert.KernelIdeal.TopK

open Idealize.ShloMosaic Idealize.ShloMosaic.ValueIdx

/-- A stable sort of increasing positions consults its order only at a lower position against a higher one, the higher one first. -/
theorem stableSort_of_increasing {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    rw [stableSort, stableSort, stableSort_of_increasing R B h l hl.2]
    exact insertBefore_congr R B a _ fun b hb => h a b (hl.1 b ((perm_stableSort B l).mem_iff.mp hb))

theorem sortedFrom_of_increasing {n : ℕ} (R B : Fin n → Fin n → Bool) (h : ∀ a b, a < b → R b a = B b a) (k : Fin n) :
    sortedFrom R k = sortedFrom B k := by
  have e : sortPositions n R = sortPositions n B := stableSort_of_increasing R B h _ (List.pairwise_lt_finRange n)
  unfold sortedFrom
  simp only [List.get_eq_getElem, Fin.val_cast]
  congr 1

/-- Position `p`'s entry comes before position `q`'s. -/
def before (s : ℕ → EReal) (p q : Fin 1024) : Bool := decide (ent s q.val < ent s p.val)

theorem before_total (s : ℕ → EReal) : StrictTotalBefore (before s) where
  irrefl p := by simp [before]
  trans a b c hab hbc := by
    simp only [before, decide_eq_true_eq] at hab hbc ⊢
    exact lt_trans hbc hab
  total a b hne := by
    simp only [before, decide_eq_true_eq]
    exact (lt_or_gt_of_ne fun e => hne (Fin.ext (ent_injective s e))).symm

/-- The reference's sort by scores alone is the sort by entries. -/
theorem sortedFrom_scores (s : ℕ → EReal) (k : Fin 1024) :
    sortedFrom (fun p q : Fin 1024 => Ideal.cmpTotal .gt (s p.val) (s q.val) == 1#1) k = sortedFrom (before s) k := by
  refine sortedFrom_of_increasing _ _ (fun a b hab => ?_) k
  have hnot : ¬b.val < a.val := not_lt.mpr (le_of_lt hab)
  unfold Ideal.cmpTotal Ideal.cmp before
  rw [Bool.eq_iff_iff]
  simp only [CmpDirection.ordered, beq_iff_eq, decide_eq_true_eq, lt_iff, score_ent, pos_ent, hnot, and_false, or_false]
  by_cases hlt : s a.val < s b.val <;> simp [hlt]

/-- THE REFERENCE'S SELECTION of one frame: its `k`-th kept position. -/
theorem sortedFrom_kept (s : ℕ → EReal) (k : Fin 64) :
    (sortedFrom (fun p q : Fin 1024 => Ideal.cmpTotal .gt (s p.val) (s q.val) == 1#1) (k.castLE (by decide))).val
      = pos (level s 3 0 (k.castLE (by decide))) := by
  obtain ⟨σ, hinj, hent, hord, hdom⟩ := level_positions s
  rw [sortedFrom_scores, (before_total s).sortedFrom_eq_of_prefix (by decide) σ hinj]
  · exact (congrArg pos (hent k)).symm
  · intro i j hij
    unfold before
    rw [decide_eq_false_iff_not]
    exact not_lt.mpr (le_of_lt (hord i j hij))
  · intro i p hp
    unfold before
    rw [decide_eq_false_iff_not]
    exact not_lt.mpr (hdom i p hp)

/-- A kept position is one of the 1024. -/
theorem pos_kept_lt (s : ℕ → EReal) (k : Fin 64) : pos (level s 3 0 (k.castLE (by decide))) < 1024 := by
  rw [← sortedFrom_kept s k]
  exact Fin.isLt _

end Cert.KernelIdeal.TopK

end
-- ==== Proof.Scores.lean ====
/-
  THE SCORES, ON BOTH SIDES. A row's score is its product with the weight column, plus the bias, times one plus the
  row's region-of-interest flag. The kernel computes the scores of the eight frames of its block in two halves of
  4096 rows each, joined again; the reference computes those of all 64 frames at once. Here both are brought to the same
  formula, `scoreOf`, of one row's data.
-/
module

public import proofs.«01_k».proof.Proof.Stages
public import proofs.«01_k».proof.Proof.Gen.KernelIdeal.Skeleton
public import proofs.«01_k».proof.Proof.Gen.ReferenceIdeal.Read
public import Idealize.ShloMosaic.Lib.Pipeline.Value
public import Idealize.ShloMosaic.Lib.ValueIdx
public import Idealize.ShloMosaic.Lib.IdealHost
public import Idealize.ShloMosaic.Lib.Pointwise

@[expose] public section

noncomputable section

namespace Cert.KernelIdeal.TopK

open Idealize.ShloMosaic Idealize.ShloMosaic.TcCoe
open Cert.KernelIdeal Cert.KernelIdeal.Gen

/-- The score of one row `x` with weights `w`, bias `b` and region-of-interest flag `r`. -/
def scoreOf (x w : Fin 768 → EReal) (b : EReal) (r : BitVec 32) : EReal :=
  (∑ k : Fin 768, x k * w k + b)
    * ((FloatOps.sitofp (F := Ideal) .f32 r : EReal) * Ideal.ofBits .f32 0x3F800000#32 + Ideal.ofBits .f32 0x3F800000#32)

/-- The row number of row `p` of the `g`-th frame in a half block. -/
def rowOf (g : Fin 4) (p : Fin 1024) : Fin 4096 := ⟨g.val * 1024 + p.val, by have := g.isLt; have := p.isLt; omega⟩

/-- Half a block's products with the weight column, as four rows of 1024. -/
theorem half_apply (L : FVec Ideal S4096x768 .f32) (W : FVec Ideal S768x1 .f32) (g : Fin 4) (p : Fin 1024) :
    shapeCast S4x1024 (matmul dot_S4096x768_S768x1_S4096x1_1_0_0_1_n_n none L
        (shapeCast S768x1 W shapeCasts_S768x1_S768x1) (constant (F := Ideal) S4096x1 .f32 0x00000000#32))
        shapeCasts_S4096x1_S4x1024 (ValueIdx.ix2 g p)
      = ∑ k : Fin 768, L (ValueIdx.ix2 (rowOf g p) k) * W (ValueIdx.ix2 k (0 : Fin 1)) := by
  rw [shapeCast_apply _ _ _ (ValueIdx.ix2 (rowOf g p) (0 : Fin 1)) (by
    rw [Shape.rowMajor_val_two, Shape.rowMajor_val_two]
    show (g.val * 1024 + p.val) * 1 + 0 = g.val * 1024 + p.val
    omega)]
  have hsum := Ideal.matmul_apply₁_of dot_S4096x768_S768x1_S4096x1_1_0_0_1_n_n (a := 1) rfl (K := 768) rfl
    L (shapeCast S768x1 W shapeCasts_S768x1_S768x1)
    (constant (F := Ideal) S4096x1 .f32 0x00000000#32) (ValueIdx.ix2 (rowOf g p) (0 : Fin 1))
    (fun k => ValueIdx.ix2 (rowOf g p) k) (fun k => ValueIdx.ix2 k (0 : Fin 1))
    (fun q => by funext a; refine Fin.ext ?_; have ha : a = 0 ∨ a = 1 := (by decide : ∀ a : Fin 2, a = 0 ∨ a = 1) a
                 rcases ha with rfl | rfl <;> rfl)
    (fun q => by funext a; refine Fin.ext ?_; have ha : a = 0 ∨ a = 1 := (by decide : ∀ a : Fin 2, a = 0 ∨ a = 1) a
                 rcases ha with rfl | rfl <;> rfl)
  refine hsum.trans ?_
  rw [show constant (F := Ideal) S4096x1 .f32 0x00000000#32 (ValueIdx.ix2 (rowOf g p) (0 : Fin 1)) = (0 : EReal)
    from Ideal.ofBits_zero_f32, zero_add]
  refine Finset.sum_congr rfl fun k _ => congrArg (_ * ·) ?_
  exact shapeCast_apply _ _ _ _ rfl

/-- A half block's rows: rows `o` to `o + 4096` of the block seen as one matrix. -/
theorem slice_apply (X0 : FVec Ideal S1x8x1024x768 .f32) (o : ℕ) (h : S8192x768.Slices ![o, 0] S4096x768) (g : Fin 4)
    (f : Fin 8) (ho : o + g.val * 1024 = f.val * 1024) (p : Fin 1024) (k : Fin 768) :
    extractStridedSlice S4096x768 ![o, 0] (shapeCast S8192x768
        (shapeCast S8x1024x768 X0 shapeCasts_S1x8x1024x768_S8x1024x768) shapeCasts_S8x1024x768_S8192x768) h
        (ValueIdx.ix2 (rowOf g p) k)
      = X0 (ValueIdx.ix4 0 f p k) := by
  refine (shapeCast_apply _ _ _ (ValueIdx.ix3 f p k) ?_).trans (shapeCast_apply _ _ _ (ValueIdx.ix4 0 f p k) ?_)
  · rw [Shape.rowMajor_val_two, Shape.rowMajor_val_three]
    show (f.val * 1024 + p.val) * 768 + k.val = (o + (g.val * 1024 + p.val)) * 768 + (0 + k.val)
    omega
  · rw [Shape.rowMajor_val_four, Shape.rowMajor_val_three]
    show ((0 * 8 + f.val) * 1024 + p.val) * 768 + k.val = (f.val * 1024 + p.val) * 768 + k.val
    omega

/-- The kernel's score of row `p` of frame `f` of its block. -/
theorem blockScore_apply (X0 : FVec Ideal S1x8x1024x768 .f32) (W : FVec Ideal S768x1 .f32) (B : FVec Ideal S1x1 .f32)
    (R : IVec S1x8x1024 32) (f : Fin 8) (p : Fin 1024) :
    k0_pay3 (F := Ideal) X0 W W B R (ValueIdx.ix2 f p)
      = scoreOf (fun k => X0 (ValueIdx.ix4 0 f p k)) (fun k => W (ValueIdx.ix2 k (0 : Fin 1)))
          (B (ValueIdx.ix2 (0 : Fin 1) (0 : Fin 1))) (R (ValueIdx.ix3 0 f p)) := by
  have hR : shapeCast S8x1024 R shapeCasts_S1x8x1024_S8x1024 (ValueIdx.ix2 f p) = R (ValueIdx.ix3 0 f p) :=
    shapeCast_apply _ _ _ _ (by
      rw [Shape.rowMajor_val_two, Shape.rowMajor_val_three]
      show (0 * 8 + f.val) * 1024 + p.val = f.val * 1024 + p.val
      omega)
  have hB : extractAt ![0, 0] B inpos_S1x1_p0_0 = B (ValueIdx.ix2 (0 : Fin 1) (0 : Fin 1)) :=
    congrArg B (funext fun a => by
      have ha : a = 0 ∨ a = 1 := (by decide : ∀ a : Fin 2, a = 0 ∨ a = 1) a
      rcases ha with rfl | rfl <;> rfl)
  unfold scoreOf
  rw [← hR, ← hB]
  refine congrArg₂ (fun u v : EReal => (u + extractAt ![0, 0] B inpos_S1x1_p0_0) * v) ?_ rfl
  by_cases h : f.val < 4
  · refine (concatenate_pair_apply_left 0 _ _ concatenates_S4x1024_S4x1024_S8x1024_d0 (ValueIdx.ix2 f p) rfl
      (ValueIdx.ix2 (⟨f.val, h⟩ : Fin 4) p) (fun b => ?_)).trans ?_
    · have hb : b = 0 ∨ b = 1 := (by decide : ∀ a : Fin 2, a = 0 ∨ a = 1) b
      rcases hb with rfl | rfl <;> rfl
    · rw [half_apply]
      exact Finset.sum_congr rfl fun k _ => congrArg (· * _) (slice_apply X0 0 _ _ f (by show 0 + f.val * 1024 = _; omega) p k)
  · have hf : f.val - 4 < 4 := by have := f.isLt; omega
    refine (concatenate_pair_apply_right 0 _ _ concatenates_S4x1024_S4x1024_S8x1024_d0 (ValueIdx.ix2 f p) rfl rfl
      (ValueIdx.ix2 (⟨f.val - 4, hf⟩ : Fin 4) p) (fun b hb => ?_) ?_).trans ?_
    · have hb' : b = 0 ∨ b = 1 := (by decide : ∀ a : Fin 2, a = 0 ∨ a = 1) b
      rcases hb' with rfl | rfl
      · exact absurd rfl hb
      · rfl
    · show f.val - 4 + 4 = f.val
      omega
    · rw [half_apply]
      exact Finset.sum_congr rfl fun k _ => congrArg (· * _) (slice_apply X0 4096 _ _ f
        (by show 4096 + (f.val - 4) * 1024 = _; omega) p k)

/-- The reference's score of row `p` of frame `t` of batch `b`. -/
theorem refScore_apply (x0 : FVec Ideal Cert.ReferenceIdeal.S4x16x1024x768 .f32) (x1 : IVec Cert.ReferenceIdeal.S4x16x1024 32)
    (x2 : FVec Ideal Cert.ReferenceIdeal.S1x768 .f32) (x3 : FVec Ideal Cert.ReferenceIdeal.S1 .f32)
    (b : Fin 4) (t : Fin 16) (p : Fin 1024) :
    Cert.ReferenceIdeal.Read.val_main_v11 (F := Ideal) x0 x1 x2 x3 (ValueIdx.ix3 b t p)
      = scoreOf (fun k => x0 (ValueIdx.ix4 b t p k)) (fun k => x2 (ValueIdx.ix2 (0 : Fin 1) k))
          (x3 (ValueIdx.ix1 (0 : Fin 1))) (x1 (ValueIdx.ix3 b t p)) := by
  have hb := b.isLt
  have ht := t.isLt
  have hp := p.isLt
  have hi : Cert.ReferenceIdeal.Read.idx_main_v5 (ValueIdx.ix3 b t p) = ValueIdx.ix4 b t p (0 : Fin 1) := by
    funext a
    refine Fin.ext ?_
    have ha : a = 0 ∨ a = 1 ∨ a = 2 ∨ a = 3 := (by decide : ∀ a : Fin 4, a = 0 ∨ a = 1 ∨ a = 2 ∨ a = 3) a
    rcases ha with rfl | rfl | rfl | rfl
    · show ((b.val * 16 + t.val) * 1024 + p.val) / 16384 = b.val; omega
    · show ((b.val * 16 + t.val) * 1024 + p.val) / 1024 % 16 = t.val; omega
    · show ((b.val * 16 + t.val) * 1024 + p.val) / 1 % 1024 = p.val; omega
    · rfl
  have hdot : Cert.ReferenceIdeal.Read.val_main_v1 (F := Ideal) x0 x2 (ValueIdx.ix4 b t p (0 : Fin 1))
      = ∑ k : Fin 768, x0 (ValueIdx.ix4 b t p k) * x2 (ValueIdx.ix2 (0 : Fin 1) k) := by
    rw [Cert.ReferenceIdeal.Read.val_main_v1_apply]
    refine Finset.sum_congr rfl fun k _ => congrArg₂ (· * ·) (congrArg x0 ?_) ?_
    · funext a
      have ha : a = 0 ∨ a = 1 ∨ a = 2 ∨ a = 3 := (by decide : ∀ a : Fin 4, a = 0 ∨ a = 1 ∨ a = 2 ∨ a = 3) a
      rcases ha with rfl | rfl | rfl | rfl <;> rfl
    · rw [Cert.ReferenceIdeal.Read.val_main_v0_apply]
      refine congrArg x2 (funext fun a => ?_)
      have ha : a = 0 ∨ a = 1 := (by decide : ∀ a : Fin 2, a = 0 ∨ a = 1) a
      rcases ha with rfl | rfl <;> rfl
  have hbias : Cert.ReferenceIdeal.Read.val_main_v3 (F := Ideal) x3 (ValueIdx.ix4 b t p (0 : Fin 1))
      = x3 (ValueIdx.ix1 (0 : Fin 1)) := by
    rw [Cert.ReferenceIdeal.Read.val_main_v3_apply, Cert.ReferenceIdeal.Read.val_main_v2_apply]
    refine congrArg x3 (funext fun a => ?_)
    have ha : a = 0 := (by decide : ∀ a : Fin 1, a = 0) a
    rcases ha with rfl
    rfl
  rw [Cert.ReferenceIdeal.Read.val_main_v11_apply, Cert.ReferenceIdeal.Read.val_main_v5_apply, hi,
    Cert.ReferenceIdeal.Read.val_main_v4_apply, hdot, hbias, Cert.ReferenceIdeal.Read.val_main_v10_apply,
    Cert.ReferenceIdeal.Read.val_main_v8_apply, Cert.ReferenceIdeal.Read.val_main_v6_apply,
    Cert.ReferenceIdeal.Read.val_main_v7_apply, Cert.ReferenceIdeal.Read.val_main_v9_apply]
  rfl

end Cert.KernelIdeal.TopK
-- ==== Proof.Block.lean ====
/-
  THE BLOCK OF ONE GRID POINT, AT AN INDEX. Row `k` of frame `f` of what the body stores is the row of frame `f` of its
  input at the position the selection gives to place `k`: the position of the `k`-th kept pair of the frame's scores.
-/
module

public import proofs.«01_k».proof.Proof.Gen.KernelIdeal.Frame
public import proofs.«01_k».proof.Proof.Body
public import proofs.«01_k».proof.Proof.OneHot
public import proofs.«01_k».proof.Proof.Network
public import proofs.«01_k».proof.Proof.RefTop
public import proofs.«01_k».proof.Proof.Scores

@[expose] public section

noncomputable section

namespace Cert.KernelIdeal.TopK

open Idealize.ShloMosaic Idealize.ShloMosaic.TcCoe
open Cert.KernelIdeal Cert.KernelIdeal.Gen

/-- The position the selection gives to place `k` of frame `f`, from the block's scores. -/
def blockPlace (S : FVec Ideal S8x1024 .f32) (f : Fin 8) (k : Fin 64) : Fin 1024 :=
  ⟨pos (level (rowScores S f) 3 0 (k.castLE (by decide))), pos_kept_lt _ k⟩

/-- The scores of a block, from its four inputs. -/
abbrev blockScores (X0 : FVec Ideal S1x8x1024x768 .f32) (X1 : IVec S1x8x1024 32) (X2 : FVec Ideal S768x1 .f32)
    (X3 : FVec Ideal S1x1 .f32) : FVec Ideal S8x1024 .f32 := k0_pay3 (F := Ideal) X0 X2 X2 X3 X1

/-- What a grid point's body leaves in its result block. -/
def blockKept (X0 : FVec Ideal S1x8x1024x768 .f32) (S : FVec Ideal S8x1024 .f32) (y : S1x8x64x768.Idx) : EReal :=
  X0 (ValueIdx.ix4 0 (y 1) (blockPlace S (y 1) (y 2)) (y 3))

/-- The block's contents at an index whose last three coordinates are `f`, `k`, `d`. -/
theorem blockKept_of (X0 : FVec Ideal S1x8x1024x768 .f32) (S : FVec Ideal S8x1024 .f32) (y : S1x8x64x768.Idx) (f : Fin 8)
    (k : Fin 64) (d : Fin 768) (h1 : (y 1).val = f.val) (h2 : (y 2).val = k.val) (h3 : (y 3).val = d.val) :
    blockKept X0 S y = X0 (ValueIdx.ix4 0 f (blockPlace S f k) d) := by
  have e1 : y 1 = f := Fin.ext h1
  have e2 : y 2 = k := Fin.ext h2
  have e3 : y 3 = d := Fin.ext h3
  unfold blockKept
  rw [e1, e2, e3]

/-- One frame's store holds the block's contents over the frame's rectangle. -/
theorem piece_apply (X0 : FVec Ideal S1x8x1024x768 .f32) (S : FVec Ideal S8x1024 .f32) (X : Fin 8 → FVec Ideal S1x1x1024x768 .f32)
    (f : Fin 8) (hX : ∀ p d, X f (ValueIdx.ix4 0 0 p d) = X0 (ValueIdx.ix4 0 f p d))
    (x : (piece (F := Ideal) (positions S) X f).1.shape.Idx) :
    (piece (F := Ideal) (positions S) X f).2 x = blockKept X0 S ((piece (F := Ideal) (positions S) X f).1.emb x) := by
  obtain ⟨k, d, rfl⟩ : ∃ (k : Fin 64) (d : Fin 768), x = ValueIdx.ix4 (0 : Fin 1) (0 : Fin 1) k d := by
    refine ⟨x 2, x 3, funext fun a => ?_⟩
    have ha : a = 0 ∨ a = 1 ∨ a = 2 ∨ a = 3 := (by decide : ∀ a : Fin 4, a = 0 ∨ a = 1 ∨ a = 2 ∨ a = 3) a
    rcases ha with rfl | rfl | rfl | rfl
    · exact Fin.ext (by have h : (x 0).val < 1 := (x 0).isLt; show (x 0).val = 0; omega)
    · exact Fin.ext (by have h : (x 1).val < 1 := (x 1).isLt; show (x 1).val = 0; omega)
    · rfl
    · rfl
  rw [blockKept_of X0 S _ f k d (by show f.val + 1 * 0 = f.val; omega) (by show 0 + 1 * k.val = k.val; omega)
    (by show 0 + 1 * d.val = d.val; omega)]
  exact (kept_apply (positions S) f (X f) k d (blockPlace S f k) (positions_apply S k f)).trans (hX _ _)

/-- The load of frame `f` out of the block: the frame's rows. -/
theorem load_apply (X0 : FVec Ideal S1x8x1024x768 .f32) (f : Fin 8) (p : Fin 1024) (d : Fin 768) :
    View.ld (Val := Elt Ideal) (S := S1x8x1024x768) (e' := .f32) X0 (Rect.unit (s := S1x8x1024x768) ![0, f.val, 0, 0] ![1, 1, 1024, 768] (loadIn f)) (ValueIdx.ix4 (0 : Fin 1) (0 : Fin 1) p d)
      = X0 (ValueIdx.ix4 0 f p d) := by
  refine congrArg X0 (funext fun a => Fin.ext ?_)
  have ha : a = 0 ∨ a = 1 ∨ a = 2 ∨ a = 3 := (by decide : ∀ a : Fin 4, a = 0 ∨ a = 1 ∨ a = 2 ∨ a = 3) a
  rcases ha with rfl | rfl | rfl | rfl
  · rfl
  · show f.val + 1 * 0 = f.val; omega
  · show 0 + 1 * p.val = p.val; omega
  · show 0 + 1 * d.val = d.val; omega

/-- The result block of a grid point, at every index. -/
theorem out_eq (c : Dev nD) (i : grid0.Coords) (arg1 : Memref sig .tc .vmem S1x8x1024x768 .f32) (harg1 : arg1.IsWhole) (arg2 : Memref sig .tc .vmem S1x8x1024 .i32) (harg2 : arg2.IsWhole) (arg3 : Memref sig .tc .vmem S768x1 .f32) (harg3 : arg3.IsWhole) (arg4 : Memref sig .tc .vmem S1x1 .f32) (harg4 : arg4.IsWhole) (arg5 : Memref sig .tc .vmem S1x8x64x768 .f32) (harg5 : arg5.IsWhole) (arg6 : Memref sig .tc .vmem S8x128 .f32) (harg6 : arg6.IsWhole)
    (x0 : Vec Ideal S1x8x1024x768 .f32) (x1 : Vec Ideal S1x8x1024 .i32) (x2 : Vec Ideal S768x1 .f32) (x3 : Vec Ideal S1x1 .f32) :
    out0_A_4 (F := Ideal) c i arg1 harg1 arg2 harg2 arg3 harg3 arg4 harg4 arg5 harg5 arg6 harg6 x0 x1 x2 x3
      = blockKept x0 (blockScores x0 x1 x2 x3) := by
  funext y
  unfold out0_A_4
  refine View.read_writes_apply_of_pieces (v := VO0_4) (f := VO0_4.junk) (blockKept x0 (blockScores x0 x1 x2 x3)) _ ?_ y
    (cover0_A_4 c i arg1 harg1 arg2 harg2 arg3 harg3 arg4 harg4 arg5 harg5 arg6 harg6 x0 x1 x2 x3 y)
  rw [pieces]
  simp only [View.readAt_eq_ld, Memref.IsWhole.read_unread]
  have z4 : (![0, 0, 0, 0] : Fin 4 → ℕ) = fun _ => 0 := by decide
  have z3 : (![0, 0, 0] : Fin 3 → ℕ) = fun _ => 0 := by decide
  have z2 : (![0, 0] : Fin 2 → ℕ) = fun _ => 0 := by decide
  rw [View.ld_unit_zero z4, View.ld_unit_zero z2, View.ld_unit_zero z2, View.ld_unit_zero z3]
  intro p hp
  obtain ⟨f, _, rfl⟩ := List.mem_map.mp hp
  intro x
  exact piece_apply x0 (blockScores x0 x1 x2 x3) _ f (load_apply x0 f) x

end Cert.KernelIdeal.TopK
-- ==== Proof.RefValue.lean ====
/- What the reference computes: result element (b, t, k, d) is coordinate `d` of the token at the `k`-th kept position of frame (b, t),
   where the positions are kept by the frame's scores. -/
module

public import proofs.«01_k».proof.Proof.Gen.ReferenceIdeal.Read
public import proofs.«01_k».proof.Proof.RefTop
public import proofs.«01_k».proof.Proof.Network

@[expose] public section

noncomputable section

namespace Cert.ReferenceIdeal.TopK

open Idealize.ShloMosaic Cert.ReferenceIdeal Cert.ReferenceIdeal.Gen Cert.ReferenceIdeal.Read
open Cert.KernelIdeal.TopK (level pos pos_kept_lt sortedFrom_kept slt_ofNat)

/-- Frame (b, t)'s scores, by position. -/
def frameScores (R : FVec Ideal S4x16x1024 .f32) (b : Fin 4) (t : Fin 16) (p : ℕ) : EReal := R (ValueIdx.ix3 b t (Fin.ofNat 1024 p))

/-- Frame (b, t)'s `k`-th kept position. -/
def place (R : FVec Ideal S4x16x1024 .f32) (b : Fin 4) (t : Fin 16) (k : Fin 64) : Fin 1024 :=
  ⟨pos (level (frameScores R b t) 3 0 (k.castLE (by decide))), pos_kept_lt _ k⟩

/-- The indices a top-k returns, along one axis of any array: the stable sort's positions. -/
theorem topK_positions {α : Type} {s u : Shape} (d : Fin s.rank) (gt : α → α → BitVec 1) (x : s.Idx → α)
    (h : s.Slices (fun _ => 0) u) (j : u.Idx) : ∃ i : s.Idx, (∀ a, (i a).val = (j (a.cast h.1.symm)).val) ∧
      (Host.topK u d.val gt x h).2 j
        = BitVec.ofNat 32 (sortedFrom (fun k k' => gt (x (i.along d k)) (x (i.along d k')) == 1#1) (i d)).val := by
  refine ⟨fun a => ⟨0 + (j (a.cast h.1.symm)).val, ?_⟩, fun a => Nat.zero_add _, ?_⟩
  · exact lt_of_lt_of_le (Nat.add_lt_add_left (j (a.cast h.1.symm)).isLt 0) (h.2 a)
  · simp only [Host.topK, Host.sort2, extractStridedSlice, dif_pos d.isLt, iotaInDim, Shape.Idx.along, Function.update_self]

/-- The indices of the reference's top-k. -/
theorem topK_apply (R : FVec Ideal S4x16x1024 .f32) (b : Fin 4) (t : Fin 16) (k : Fin 64) :
    (Host.topK S4x16x64 2 (FloatOps.cmpfTotal (F := Ideal) (φ := .f32) .gt) R sliceFits_S4x16x1024_S4x16x64).2 (ValueIdx.ix3 b t k)
      = BitVec.ofNat 32 (place R b t k).val := by
  refine Eq.trans ?_ (congrArg (BitVec.ofNat 32) (sortedFrom_kept (frameScores R b t) k))
  obtain ⟨i, hi, e⟩ := topK_positions (2 : Fin S4x16x1024.rank) (FloatOps.cmpfTotal (F := Ideal) (φ := .f32) .gt) R
    sliceFits_S4x16x1024_S4x16x64 (ValueIdx.ix3 b t k)
  have hrow : ∀ p : Fin 1024, R (i.along (2 : Fin S4x16x1024.rank) p) = frameScores R b t p.val := fun p => by
    refine congrArg R (funext fun a => ?_)
    match a with
    | ⟨0, _⟩ => exact Fin.ext (hi 0)
    | ⟨1, _⟩ => exact Fin.ext (hi 1)
    | ⟨2, _⟩ => exact Fin.ext (Nat.mod_eq_of_lt p.isLt).symm
  have hf : (fun p q : Fin 1024 => FloatOps.cmpfTotal (F := Ideal) (φ := .f32) .gt (R (i.along (2 : Fin S4x16x1024.rank) p))
        (R (i.along (2 : Fin S4x16x1024.rank) q)) == 1#1)
      = fun p q : Fin 1024 => Ideal.cmpTotal .gt (frameScores R b t p.val) (frameScores R b t q.val) == 1#1 := by
    funext p q
    rw [hrow, hrow]
    rfl
  have hk : (i (2 : Fin S4x16x1024.rank) : Fin 1024) = k.castLE (by decide) := Fin.ext (hi 2)
  exact e.trans (congrArg₂ (fun (g : Fin 1024 → Fin 1024 → Bool) (z : Fin 1024) => BitVec.ofNat 32 (sortedFrom g z).val) hf hk)

section
variable (x0 : (⟨S4x16x1024x768, .f32⟩ : BufTy).Contents (Elt Ideal)) (x1 : (⟨S4x16x1024, .i32⟩ : BufTy).Contents (Elt Ideal))
  (x2 : (⟨S1x768, .f32⟩ : BufTy).Contents (Elt Ideal)) (x3 : (⟨S1, .f32⟩ : BufTy).Contents (Elt Ideal))

/-- The reference's scores. -/
abbrev scores : FVec Ideal S4x16x1024 .f32 := val_main_v11 (F := Ideal) x0 x1 x2 x3

theorem indices_apply (i : S4x16x64.Idx) :
    val_main_indices (F := Ideal) x0 x1 x2 x3 i = BitVec.ofNat 32 (place (scores x0 x1 x2 x3) (i 0) (i 1) (i 2)).val := by
  have e : i = ValueIdx.ix3 (i 0) (i 1) (i 2) := funext fun a => match a with
    | ⟨0, _⟩ => rfl
    | ⟨1, _⟩ => rfl
    | ⟨2, _⟩ => rfl
  conv_lhs => rw [e]
  exact topK_apply (scores x0 x1 x2 x3) (i 0) (i 1) (i 2)

theorem v13_apply (i : S4x16x64x768.Idx) :
    val_main_v13 (F := Ideal) x0 x1 x2 x3 i = BitVec.ofNat 32 (place (scores x0 x1 x2 x3) (i 0) (i 1) (i 2)).val := by
  rw [val_main_v13_apply, val_main_v12_apply, indices_apply]
  rfl

/-- The wrap of negative indices leaves a kept position as it is. -/
theorem wrapped_apply (i : S4x16x64x768.Idx) :
    val_main_call0_v4 (F := Ideal) x0 x1 x2 x3 i = BitVec.ofNat 32 (place (scores x0 x1 x2 x3) (i 0) (i 1) (i 2)).val := by
  rw [val_main_call0_v4_apply, val_main_call0_v1_apply, v13_apply]
  have h : IntOp.cmpi .slt (BitVec.ofNat 32 (place (scores x0 x1 x2 x3) (i 0) (i 1) (i 2)).val) (BitVec.ofNat 32 0)
      = BitVec.ofBool (decide ((place (scores x0 x1 x2 x3) (i 0) (i 1) (i 2)).val < 0)) :=
    slt_ofNat (place (scores x0 x1 x2 x3) (i 0) (i 1) (i 2)).isLt (by decide)
  rw [val_main_call0_v0_apply, val_main_call0_c_apply]
  rw [h, decide_eq_false (Nat.not_lt_zero _)]
  rfl

theorem starts_apply (i : S4x16x64x768x1.Idx) :
    val_main_call0_v5 (F := Ideal) x0 x1 x2 x3 i = BitVec.ofNat 32 (place (scores x0 x1 x2 x3) (i 0) (i 1) (i 2)).val := by
  rw [val_main_call0_v5_apply, wrapped_apply]
  have h0 : (i 0).val < 4 := (i 0).isLt
  have h1 : (i 1).val < 16 := (i 1).isLt
  have h2 : (i 2).val < 64 := (i 2).isLt
  have h3 : (i 3).val < 768 := (i 3).isLt
  have h4 : (i 4).val < 1 := (i 4).isLt
  have e0 : idx_main_call0_v5 i 0 = i 0 := Fin.ext (by
    show (((((i 0).val * 16 + (i 1).val) * 64 + (i 2).val) * 768 + (i 3).val) * 1 + (i 4).val) / 786432 = (i 0).val; omega)
  have e1 : idx_main_call0_v5 i 1 = i 1 := Fin.ext (by
    show (((((i 0).val * 16 + (i 1).val) * 64 + (i 2).val) * 768 + (i 3).val) * 1 + (i 4).val) / 49152 % 16 = (i 1).val; omega)
  have e2 : idx_main_call0_v5 i 2 = i 2 := Fin.ext (by
    show (((((i 0).val * 16 + (i 1).val) * 64 + (i 2).val) * 768 + (i 3).val) * 1 + (i 4).val) / 768 % 64 = (i 2).val; omega)
  rw [e0, e1, e2]

theorem toInt_small {p : ℕ} (hp : p < 1024) : (BitVec.ofNat 32 p).toInt = p := by
  rw [BitVec.toInt_eq_toNat_of_lt (by rw [BitVec.toNat_ofNat, Nat.mod_eq_of_lt] <;> omega), BitVec.toNat_ofNat,
    Nat.mod_eq_of_lt (by omega)]

/-- A kept position passes the bounds test. -/
theorem inside_apply (i : S4x16x64x768x1.Idx) : val_main_call0_v11 (F := Ideal) x0 x1 x2 x3 i = 1#1 := by
  rw [val_main_call0_v11_apply, val_main_call0_v7_apply, val_main_call0_v10_apply, starts_apply, val_main_call0_v6_apply,
    val_main_call0_c_2_apply, val_main_call0_v9_apply, val_main_call0_v8_apply, val_main_call0_c_1_apply]
  generalize place (scores x0 x1 x2 x3) (i 0) (i 1) (i 2) = p
  have hp := p.isLt
  have h1 : IntOp.cmpi .sge (BitVec.ofNat 32 p.val) 0#32 = 1#1 := by
    show BitVec.ofBool ((0#32).sle (BitVec.ofNat 32 p.val)) = _
    rw [BitVec.sle_eq_decide, toInt_small hp, decide_eq_true (by show (0 : Int) ≤ _; omega)]
    rfl
  have h2 : IntOp.cmpi .sle (BitVec.ofNat 32 p.val) 1023#32 = 1#1 := by
    show BitVec.ofBool ((BitVec.ofNat 32 p.val).sle (1023#32)) = _
    rw [BitVec.sle_eq_decide, toInt_small hp, decide_eq_true (by show _ ≤ (1023 : Int); omega)]
    rfl
  rw [h1, h2]
  rfl

theorem foldl_true {ι : Type} (x : ι → BitVec 1) (hx : ∀ n, x n = 1#1) :
    ∀ l : List ι, l.foldl (fun r n => IntOp.andi r (x n)) 1#1 = 1#1
  | [] => rfl
  | n :: l => by
    rw [List.foldl_cons, hx n]
    exact foldl_true x hx l

theorem valid_apply (i : S4x16x64x768.Idx) : val_main_call0_v12 (F := Ideal) x0 x1 x2 x3 i = 1#1 := by
  unfold val_main_call0_v12 Host.reduce
  have h := inside_apply x0 x1 x2 x3
  generalize val_main_call0_v11 (F := Ideal) x0 x1 x2 x3 = y at h
  exact foldl_true (fun n => y (S4x16x64x768x1.rowMajor.symm n)) (fun n => h _) _

/-- THE GATHER read at an index: the token row its start index names, when that is within bounds. -/
theorem gather_apply (starts : IVec S4x16x64x768x1 32) (b : Fin 4) (t : Fin 16) (k : Fin 64) (d : Fin 768) (p : Fin 1024)
    (h : starts (ValueIdx.ix5 b t k d (0 : Fin 1)) = BitVec.ofNat 32 p.val) :
    Host.gather gather_S4x16x1024x768_S4x16x64x768x1_S4x16x64x768_n_2_013_013_2_4_1111 x0 starts (ValueIdx.ix4 b t k d)
      = x0 (ValueIdx.ix4 b t p d) := by
  let D := gather_S4x16x1024x768_S4x16x64x768x1_S4x16x64x768_n_2_013_013_2_4_1111
  unfold Host.gather
  refine congrArg x0 (funext fun a => Fin.ext ?_)
  show D.start (ValueIdx.ix4 b t k d) starts a + D.batchCoord (ValueIdx.ix4 b t k d) a + D.offCoord (ValueIdx.ix4 b t k d) a = _
  have hoff : D.offCoord (ValueIdx.ix4 b t k d) a = 0 := GatherDims.offCoord_eq_zero _ _ _ (by revert a; decide)
  have hbatch : ∀ a' : Fin 4, a' ∈ D.operandBatchingDims → D.start (ValueIdx.ix4 b t k d) starts a' = 0 :=
    fun a' ha => GatherDims.start_batching _ _ _ _ ha
  rw [hoff, Nat.add_zero]
  have ha : ∀ a : Fin 4, a = 0 ∨ a = 1 ∨ a = 3 ∨ a = 2 := by decide
  rcases ha a with rfl | rfl | rfl | rfl
  · rw [hbatch _ (show (0 : Fin 4) ∈ D.operandBatchingDims by decide), Nat.zero_add]
    rfl
  · rw [hbatch _ (show (1 : Fin 4) ∈ D.operandBatchingDims by decide), Nat.zero_add]
    rfl
  · rw [hbatch _ (show (3 : Fin 4) ∈ D.operandBatchingDims by decide), Nat.zero_add]
    rfl
  · rw [GatherDims.batchCoord_eq_zero _ _ _ (show (2 : Fin 4) ∉ D.operandBatchingDims by decide), Nat.add_zero]
    unfold GatherDims.start
    rw [dif_pos (show (2 : Fin 4) ∈ D.startIndexMap by decide)]
    have hsi : D.siIdx (ValueIdx.ix4 b t k d) ⟨List.idxOf (2 : Fin 4) D.startIndexMap,
        List.idxOf_lt_length_iff.2 (by decide)⟩ = ValueIdx.ix5 b t k d (0 : Fin 1) := by
      funext c
      refine Fin.ext ?_
      match c with
      | ⟨0, _⟩ => rfl
      | ⟨1, _⟩ => rfl
      | ⟨2, _⟩ => rfl
      | ⟨3, _⟩ => rfl
      | ⟨4, _⟩ => rfl
    rw [hsi, h, toInt_small p.isLt]
    have hp := p.isLt
    show min p.val 1023 = p.val
    omega

/-- THE REFERENCE'S RESULT. -/
theorem result_apply (b : Fin 4) (t : Fin 16) (k : Fin 64) (d : Fin 768) :
    val_main_v14 (F := Ideal) x0 x1 x2 x3 (ValueIdx.ix4 b t k d)
      = x0 (ValueIdx.ix4 b t (place (scores x0 x1 x2 x3) b t k) d) := by
  rw [val_main_v14_apply, valid_apply]
  refine Eq.trans ?_ (gather_apply x0 (val_main_call0_v5 (F := Ideal) x0 x1 x2 x3) b t k d _ (starts_apply x0 x1 x2 x3 _))
  rfl

end

end Cert.ReferenceIdeal.TopK

end
-- ==== Proof.Equation.lean ====
/-
  THE EQUATION. If frame `f` of a block holds what frame `t` of batch `b` holds in the reference's arguments, then the
  kernel's rows of frame `f` are the reference's rows of that frame: the scores are the same function of the same data,
  so the two selections keep the same positions, and both results are the rows at these positions.
-/
module

public import proofs.«01_k».proof.Proof.Block
public import proofs.«01_k».proof.Proof.RefValue

@[expose] public section

noncomputable section

namespace Cert.KernelIdeal.TopK

open Idealize.ShloMosaic Idealize.ShloMosaic.TcCoe
open Cert.KernelIdeal Cert.KernelIdeal.Gen

/-- The scores of a block's frame are the reference's scores of that frame. -/
theorem rowScores_eq (X0 : FVec Ideal S1x8x1024x768 .f32) (X1 : IVec S1x8x1024 32) (X2 : FVec Ideal S768x1 .f32)
    (X3 : FVec Ideal S1x1 .f32)
    (x0 : FVec Ideal Cert.ReferenceIdeal.S4x16x1024x768 .f32) (x1 : IVec Cert.ReferenceIdeal.S4x16x1024 32)
    (x2 : FVec Ideal Cert.ReferenceIdeal.S1x768 .f32) (x3 : FVec Ideal Cert.ReferenceIdeal.S1 .f32)
    (f : Fin 8) (b : Fin 4) (t : Fin 16)
    (h0 : ∀ p k, X0 (ValueIdx.ix4 0 f p k) = x0 (ValueIdx.ix4 b t p k))
    (h1 : ∀ p, X1 (ValueIdx.ix3 0 f p) = x1 (ValueIdx.ix3 b t p))
    (h2 : ∀ k, X2 (ValueIdx.ix2 k (0 : Fin 1)) = x2 (ValueIdx.ix2 (0 : Fin 1) k))
    (h3 : X3 (ValueIdx.ix2 (0 : Fin 1) (0 : Fin 1)) = x3 (ValueIdx.ix1 (0 : Fin 1))) :
    rowScores (blockScores X0 X1 X2 X3) f
      = Cert.ReferenceIdeal.TopK.frameScores (Cert.ReferenceIdeal.TopK.scores x0 x1 x2 x3) b t := by
  funext q
  show k0_pay3 (F := Ideal) X0 X2 X2 X3 X1 (ValueIdx.ix2 f (Fin.ofNat 1024 q))
    = Cert.ReferenceIdeal.Read.val_main_v11 (F := Ideal) x0 x1 x2 x3 (ValueIdx.ix3 b t (Fin.ofNat 1024 q))
  rw [blockScore_apply, refScore_apply, h1, h3]
  simp only [h0, h2]

/-- The kernel's row `k` of the frame is the reference's. -/
theorem block_eq (X0 : FVec Ideal S1x8x1024x768 .f32) (X1 : IVec S1x8x1024 32) (X2 : FVec Ideal S768x1 .f32)
    (X3 : FVec Ideal S1x1 .f32)
    (x0 : FVec Ideal Cert.ReferenceIdeal.S4x16x1024x768 .f32) (x1 : IVec Cert.ReferenceIdeal.S4x16x1024 32)
    (x2 : FVec Ideal Cert.ReferenceIdeal.S1x768 .f32) (x3 : FVec Ideal Cert.ReferenceIdeal.S1 .f32)
    (f : Fin 8) (b : Fin 4) (t : Fin 16)
    (h0 : ∀ p k, X0 (ValueIdx.ix4 0 f p k) = x0 (ValueIdx.ix4 b t p k))
    (h1 : ∀ p, X1 (ValueIdx.ix3 0 f p) = x1 (ValueIdx.ix3 b t p))
    (h2 : ∀ k, X2 (ValueIdx.ix2 k (0 : Fin 1)) = x2 (ValueIdx.ix2 (0 : Fin 1) k))
    (h3 : X3 (ValueIdx.ix2 (0 : Fin 1) (0 : Fin 1)) = x3 (ValueIdx.ix1 (0 : Fin 1)))
    (y : S1x8x64x768.Idx) (k : Fin 64) (d : Fin 768)
    (e1 : (y 1).val = f.val) (e2 : (y 2).val = k.val) (e3 : (y 3).val = d.val) :
    blockKept X0 (blockScores X0 X1 X2 X3) y
      = Cert.ReferenceIdeal.Read.val_main_v14 (F := Ideal) x0 x1 x2 x3 (ValueIdx.ix4 b t k d) := by
  have hs := rowScores_eq X0 X1 X2 X3 x0 x1 x2 x3 f b t h0 h1 h2 h3
  have hp : blockPlace (blockScores X0 X1 X2 X3) f k
      = Cert.ReferenceIdeal.TopK.place (Cert.ReferenceIdeal.TopK.scores x0 x1 x2 x3) b t k :=
    Fin.ext (congrArg (fun s : ℕ → EReal => pos (level s 3 0 (k.castLE (by decide)))) hs)
  rw [blockKept_of X0 _ y f k d e1 e2 e3, h0, hp]
  exact (Cert.ReferenceIdeal.TopK.result_apply x0 x1 x2 x3 b t k d).symm

end Cert.KernelIdeal.TopK
-- ==== Proof.Array.lean ====
/-
  FROM BLOCKS TO THE ARRAY. The kernel's operands are the arguments regrouped: the 4 × 16 frames as 8 × 8, the weight row
  as a column, the bias as a 1 × 1 matrix. Grid point `t` reads the `t`-th group of eight frames and writes the `t`-th
  block of the result array; the eight blocks cover it. So frame `f` of group `t` of the array is frame
  `8 t + f = 16 b + s` of the reference's result, and the final regrouping to 4 × 16 frames makes them equal.
-/
module

public import proofs.«01_k».proof.Proof.Equation
public import Idealize.ShloMosaic.Lib.Claim
public import Idealize.ShloMosaic.Lib.Pipeline.ValueKit.Geometry

@[expose] public section

noncomputable section

namespace Cert.KernelIdeal.TopK

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ)

/-! ## The operands -/

/-- The first operand: the frames, regrouped as eight groups of eight. -/
theorem entry0 (c : Dev nD) : V m c main_v0
    = shapeCast S8x8x1024x768 (m ((c : Thread nD τ).loc main_arg0)) shapeCasts_S4x16x1024x768_S8x8x1024x768 := by
  entry_read
  rfl

/-- The second operand: the region-of-interest flags, regrouped likewise. -/
theorem entry1 (c : Dev nD) : V m c main_v1
    = shapeCast S8x8x1024 (m ((c : Thread nD τ).loc main_arg1)) shapeCasts_S4x16x1024_S8x8x1024 := by
  entry_read
  rfl

/-- The third operand: the weights, as a column. -/
theorem entry2 (c : Dev nD) : V m c main_v2
    = shapeCast S768x1 (m ((c : Thread nD τ).loc main_arg2)) shapeCasts_S1x768_S768x1 := by
  entry_read
  rfl

/-- The fourth operand: the bias, as a 1 × 1 matrix. -/
theorem entry3 (c : Dev nD) : V m c main_v3
    = shapeCast S1x1 (m ((c : Thread nD τ).loc main_arg3)) shapeCasts_S1_S1x1 := by
  entry_read
  rfl

/-! ## The index maps -/

/-- Point `t` takes block `t` of the frames. -/
theorem idx0 : ∀ t : Fin cfg0.N, win0_0.index t 0 = t.val ∧ win0_0.index t 1 = 0 ∧ win0_0.index t 2 = 0 ∧ win0_0.index t 3 = 0 :=
  (by decide +kernel : ∀ t : Fin grid0.N, _)

/-- Point `t` takes block `t` of the flags. -/
theorem idx1 : ∀ t : Fin cfg0.N, win0_1.index t 0 = t.val ∧ win0_1.index t 1 = 0 ∧ win0_1.index t 2 = 0 :=
  (by decide +kernel : ∀ t : Fin grid0.N, _)

/-- Every point takes the whole weight column. -/
theorem idx2 : ∀ t : Fin cfg0.N, win0_2.index t 0 = 0 ∧ win0_2.index t 1 = 0 :=
  (by decide +kernel : ∀ t : Fin grid0.N, _)

/-- Every point takes the bias. -/
theorem idx3 : ∀ t : Fin cfg0.N, win0_3.index t 0 = 0 ∧ win0_3.index t 1 = 0 :=
  (by decide +kernel : ∀ t : Fin grid0.N, _)

/-- Point `t` writes block `t` of the result. -/
theorem idx4 : ∀ t : Fin cfg0.N, win0_4.index t 0 = t.val ∧ win0_4.index t 1 = 0 ∧ win0_4.index t 2 = 0 ∧ win0_4.index t 3 = 0 :=
  (by decide +kernel : ∀ t : Fin grid0.N, _)

/-! ## Regroupings at an index -/

/-- Frame `y₁` of group `y₀` is frame `s` of batch `b` when `16 b + s = 8 y₀ + y₁`. -/
theorem regroup_frames {e : Type} (x : S4x16x1024x768.Idx → e) (y : S8x8x1024x768.Idx) (b : Fin 4) (s : Fin 16) (p : Fin 1024)
    (k : Fin 768) (h : b.val * 16 + s.val = (y 0).val * 8 + (y 1).val) (h2 : (y 2).val = p.val) (h3 : (y 3).val = k.val) :
    shapeCast S8x8x1024x768 x shapeCasts_S4x16x1024x768_S8x8x1024x768 y = x (ValueIdx.ix4 b s p k) := by
  refine shapeCast_apply _ _ _ _ ?_
  rw [Shape.rowMajor_val_four, Shape.rowMajor_val_four]
  show ((b.val * 16 + s.val) * 1024 + p.val) * 768 + k.val = (((y 0).val * 8 + (y 1).val) * 1024 + (y 2).val) * 768 + (y 3).val
  rw [h, h2, h3]

/-- The same for the flags. -/
theorem regroup_flags {e : Type} (x : S4x16x1024.Idx → e) (y : S8x8x1024.Idx) (b : Fin 4) (s : Fin 16) (p : Fin 1024)
    (h : b.val * 16 + s.val = (y 0).val * 8 + (y 1).val) (h2 : (y 2).val = p.val) :
    shapeCast S8x8x1024 x shapeCasts_S4x16x1024_S8x8x1024 y = x (ValueIdx.ix3 b s p) := by
  refine shapeCast_apply _ _ _ _ ?_
  rw [Shape.rowMajor_val_three, Shape.rowMajor_val_three]
  show (b.val * 16 + s.val) * 1024 + p.val = ((y 0).val * 8 + (y 1).val) * 1024 + (y 2).val
  rw [h, h2]

/-- The weight row as a column. -/
theorem regroup_weights {e : Type} (x : S1x768.Idx → e) (y : S768x1.Idx) (k : Fin 768) (h : (y 0).val = k.val) :
    shapeCast S768x1 x shapeCasts_S1x768_S768x1 y = x (ValueIdx.ix2 (0 : Fin 1) k) := by
  refine shapeCast_apply _ _ _ _ ?_
  rw [Shape.rowMajor_val_two, Shape.rowMajor_val_two]
  have h1 : (y 1).val < 1 := (y 1).isLt
  show 0 * 768 + k.val = (y 0).val * 1 + (y 1).val
  omega

/-- The bias as a 1 × 1 matrix. -/
theorem regroup_bias {e : Type} (x : S1.Idx → e) (y : S1x1.Idx) :
    shapeCast S1x1 x shapeCasts_S1_S1x1 y = x (ValueIdx.ix1 (0 : Fin 1)) := by
  refine shapeCast_apply _ _ _ _ ?_
  have h0 : (y 0).val < 1 := (y 0).isLt
  have h1 : (y 1).val < 1 := (y 1).isLt
  rw [Shape.rowMajor_val_one, Shape.rowMajor_val_two]
  show 0 = (y 0).val * 1 + (y 1).val
  omega

/-- The result regrouped: frame `s` of batch `b` is frame `f` of group `g` when `16 b + s = 8 g + f`. -/
theorem regroup_result {e : Type} (x : S8x8x64x768.Idx → e) (y : S4x16x64x768.Idx) (g f : Fin 8)
    (h : (y 0).val * 16 + (y 1).val = g.val * 8 + f.val) :
    shapeCast S4x16x64x768 x shapeCasts_S8x8x64x768_S4x16x64x768 y = x (ValueIdx.ix4 g f (y 2) (y 3)) := by
  refine shapeCast_apply _ _ _ _ ?_
  rw [Shape.rowMajor_val_four, Shape.rowMajor_val_four]
  show ((g.val * 8 + f.val) * 64 + (y 2).val) * 768 + (y 3).val = (((y 0).val * 16 + (y 1).val) * 64 + (y 2).val) * 768 + (y 3).val
  rw [h]

/-! ## The input blocks of a point -/

/-- The frames of point `t`. -/
theorem frames_apply (c : Dev nD) (t : Fin cfg0.N) (f : Fin 8) (b : Fin 4) (s : Fin 16) (h : b.val * 16 + s.val = t.val * 8 + f.val)
    (p : Fin 1024) (k : Fin 768) :
    (iblk m c 0 t : S1x8x1024x768.Idx → EReal) (ValueIdx.ix4 0 f p k) = m ((c : Thread nD τ).loc main_arg0) (ValueIdx.ix4 b s p k) := by
  obtain ⟨i0, i1, i2, i3⟩ := idx0 t
  blk_simp [iblk]
  rw [entry0]
  refine regroup_frames _ _ b s p k ?_ ?_ ?_ <;> blk_simp [i0, i1, i2, i3]
  exact h

/-- The flags of point `t`. -/
theorem flags_apply (c : Dev nD) (t : Fin cfg0.N) (f : Fin 8) (b : Fin 4) (s : Fin 16) (h : b.val * 16 + s.val = t.val * 8 + f.val)
    (p : Fin 1024) :
    (iblk m c 1 t : S1x8x1024.Idx → BitVec 32) (ValueIdx.ix3 0 f p) = m ((c : Thread nD τ).loc main_arg1) (ValueIdx.ix3 b s p) := by
  obtain ⟨i0, i1, i2⟩ := idx1 t
  blk_simp [iblk]
  rw [entry1]
  refine regroup_flags _ _ b s p ?_ ?_ <;> blk_simp [i0, i1, i2]
  exact h

/-- The weight column. -/
theorem weights_apply (c : Dev nD) (t : Fin cfg0.N) (k : Fin 768) :
    (iblk m c 2 t : S768x1.Idx → EReal) (ValueIdx.ix2 k (0 : Fin 1))
      = m ((c : Thread nD τ).loc main_arg2) (ValueIdx.ix2 (0 : Fin 1) k) := by
  obtain ⟨i0, i1⟩ := idx2 t
  blk_simp [iblk]
  rw [entry2]
  refine regroup_weights _ _ k ?_
  blk_simp [i0, i1]

/-- The bias. -/
theorem bias_apply (c : Dev nD) (t : Fin cfg0.N) :
    (iblk m c 3 t : S1x1.Idx → EReal) (ValueIdx.ix2 (0 : Fin 1) (0 : Fin 1))
      = m ((c : Thread nD τ).loc main_arg3) (ValueIdx.ix1 (0 : Fin 1)) := by
  blk_simp [iblk]
  rw [entry3]
  exact regroup_bias _ _

/-! ## The result array -/

/-- The reference's result, on core `c`'s arguments. -/
abbrev answer (c : Dev nD) : S4x16x64x768.Idx → EReal :=
  Cert.ReferenceIdeal.Read.val_main_v14 (F := Ideal) (m ((c : Thread nD τ).loc main_arg0)) (m ((c : Thread nD τ).loc main_arg1))
    (m ((c : Thread nD τ).loc main_arg2)) (m ((c : Thread nD τ).loc main_arg3))

/-- What the kernel's result array ends holding: the reference's result, as eight groups of eight frames. -/
def grouped (c : Dev nD) (i : S8x8x64x768.Idx) : EReal :=
  answer m c (ValueIdx.ix4
    (⟨((i 0).val * 8 + (i 1).val) / 16, by
      have h0 : (i 0).val < 8 := (i 0).isLt
      have h1 : (i 1).val < 8 := (i 1).isLt
      omega⟩ : Fin 4)
    (⟨((i 0).val * 8 + (i 1).val) % 16, Nat.mod_lt _ (by decide)⟩ : Fin 16) (i 2) (i 3))

/-- The array at an index of group `g`, frame `f` with `16 b + s = 8 g + f`. -/
theorem grouped_of (c : Dev nD) (i : S8x8x64x768.Idx) (b : Fin 4) (s : Fin 16) (k : Fin 64) (d : Fin 768)
    (h : b.val * 16 + s.val = (i 0).val * 8 + (i 1).val) (h2 : (i 2).val = k.val) (h3 : (i 3).val = d.val) :
    grouped m c i = answer m c (ValueIdx.ix4 b s k d) := by
  have hs := s.isLt
  unfold grouped
  have e2 : i 2 = k := Fin.ext h2
  have e3 : i 3 = d := Fin.ext h3
  rw [e2, e3]
  refine congrArg₂ (fun (u : Fin 4) (v : Fin 16) => answer m c (ValueIdx.ix4 u v k d)) (Fin.ext ?_) (Fin.ext ?_)
  · show ((i 0).val * 8 + (i 1).val) / 16 = b.val
    omega
  · show ((i 0).val * 8 + (i 1).val) % 16 = s.val
    omega

/-- What point `t` leaves in its result block, at an index: the grouped result under the block's place in the array. -/
theorem point_eq (c : Dev nD) (t : Fin cfg0.N) (y : S1x8x64x768.Idx) (i : S8x8x64x768.Idx) (h0 : (i 0).val = t.val)
    (h1 : (i 1).val = (y 1).val) (h2 : (i 2).val = (y 2).val) (h3 : (i 3).val = (y 3).val) :
    outsAt0 m c t y = grouped m c i := by
  have ht : t.val < 8 := t.isLt
  have hf : (y 1).val < 8 := (y 1).isLt
  have h : (t.val * 8 + (y 1).val) / 16 * 16 + (t.val * 8 + (y 1).val) % 16 = t.val * 8 + (y 1).val := by omega
  have hb : (t.val * 8 + (y 1).val) / 16 < 4 := by omega
  have hs : (t.val * 8 + (y 1).val) % 16 < 16 := Nat.mod_lt _ (by decide)
  rw [grouped_of m c i ⟨_, hb⟩ ⟨_, hs⟩ (y 2) (y 3) (by rw [h0, h1]; exact h) h2 h3]
  unfold outsAt0
  rw [out_eq]
  exact block_eq (iblk m c 0 t) (iblk m c 1 t) (iblk m c 2 t) (iblk m c 3 t) _ _ _ _ (y 1) ⟨_, hb⟩ ⟨_, hs⟩
    (frames_apply m c t (y 1) ⟨_, hb⟩ ⟨_, hs⟩ h) (flags_apply m c t (y 1) ⟨_, hb⟩ ⟨_, hs⟩ h) (weights_apply m c t)
    (bias_apply m c t) y (y 2) (y 3) rfl rfl rfl

/-- After all eight points the result array holds the reference's result, grouped. -/
theorem array_eq (c : Dev nD) : (dats m 0 c).arrAt 4 cfg0.N = grouped m c := by
  refine (dats m 0 c).arrAt_eq_of_covers 4 _ (by decide +kernel) fun t _ y => ?_
  obtain ⟨i0, i1, i2, i3⟩ := idx4 t
  blk_simp
  rw [after0_4]
  refine point_eq m c t y _ ?_ ?_ ?_ ?_ <;> blk_simp [i0, i1, i2, i3]

/-- The last host operation regroups the array to 4 × 16 frames: the kernel's result is the reference's. -/
theorem tail_eq (c : Dev nD) : Pipeline.afterTail₀ cfgs (dats m) 0 (V0 m) [hostOps1] c main_v5 = answer m c := by
  have hv : Pipeline.afterTail₀ cfgs (dats m) 0 (V0 m) [hostOps1] c main_v5
      = shapeCast S4x16x64x768 (grouped m c) shapeCasts_S8x8x64x768_S4x16x64x768 := by
    have hw : Pipeline.withArrays (cfgs 0).spec c (V0 m c) (fun w => (dats m 0 c).arrAt w (cfgs 0).N) (Proc.devRef .tc main_v4)
        = grouped m c :=
      (Pipeline.withArrays_arr spec0 (by decide) c (V0 m c) (fun w => (dats m 0 c).arrAt w (cfgs 0).N) 4).trans (array_eq m c)
    unfold Pipeline.afterTail₀
    simp only [List.flatten_cons, List.flatten_nil, List.append_nil]
    after_results
    exact congrArg (fun x => shapeCast S4x16x64x768 x shapeCasts_S8x8x64x768_S4x16x64x768) hw
  rw [hv]
  funext y
  have h0 : (y 0).val < 4 := (y 0).isLt
  have h1 : (y 1).val < 16 := (y 1).isLt
  have hg : ((y 0).val * 16 + (y 1).val) / 8 < 8 := by omega
  have hf : ((y 0).val * 16 + (y 1).val) % 8 < 8 := Nat.mod_lt _ (by decide)
  rw [regroup_result (grouped m c) y ⟨_, hg⟩ ⟨_, hf⟩ (by
      show (y 0).val * 16 + (y 1).val = ((y 0).val * 16 + (y 1).val) / 8 * 8 + ((y 0).val * 16 + (y 1).val) % 8
      omega),
    grouped_of m c _ (y 0) (y 1) (y 2) (y 3) (by
      show (y 0).val * 16 + (y 1).val = ((y 0).val * 16 + (y 1).val) / 8 * 8 + ((y 0).val * 16 + (y 1).val) % 8
      omega) rfl rfl]
  refine congrArg (answer m c) (funext fun a => ?_)
  have ha : a = 0 ∨ a = 1 ∨ a = 2 ∨ a = 3 := (by decide : ∀ a : Fin 4, a = 0 ∨ a = 1 ∨ a = 2 ∨ a = 3) a
  rcases ha with rfl | rfl | rfl | rfl <;> rfl

end Cert.KernelIdeal.TopK
-- ==== Proof.Result.lean ====
/-
  THE TWO RUNS. The kernel, run from any contents of memory, ends with the reference's result of its own arguments in its
  result buffer and with its arguments unchanged; the reference, run from the same arguments, ends with that result too.
-/
module

public import proofs.«01_k».proof.Proof.Array
public import proofs.«01_k».proof.Proof.Gen.ReferenceIdeal.Run
public import proofs.«01_k».proof.Defs

@[expose] public section

noncomputable section

namespace Cert.KernelIdeal.TopK

open Idealize.ShloMosaic Idealize.ShloMosaic.TcCoe Idealize.ShloMosaic.Tactic
open Idealize.SL Idealize.SL.Sem
open Cert.KernelIdeal Cert.KernelIdeal.Gen

/-- The kernel's run. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

/-- Kernel and reference compute the same result over the extended reals. -/
theorem algebraic : Cert.algebraic_KernelIdeal_ReferenceIdeal := by
  intro m g m' g' _ hargs
  refine ⟨answer m, kernel_run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3⟩ := hargs c
  rw [Cert.ReferenceIdeal.Read.val_main_v14_eq, e0, e1, e2, e3]

end Cert.KernelIdeal.TopK
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference leaves its arguments unchanged and declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.KernelIdeal.TopK.algebraic⟩

end Cert.Proof

end
